-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S1024x512 : Shape := ⟨2, ![1024, 512]⟩
abbrev S4 : Shape := ⟨1, ![4]⟩
abbrev S2 : Shape := ⟨1, ![2]⟩
abbrev S_ : Shape := ⟨0, ![]⟩
abbrev S1 : Shape := ⟨1, ![1]⟩
abbrev S64x512 : Shape := ⟨2, ![64, 512]⟩
abbrev S128x512 : Shape := ⟨2, ![128, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .bf16⟩
  | .hbm, ⟨1, _⟩ => ⟨S1024x512, .bf16⟩
  | .local _ .vmem, ⟨0, _⟩ => ⟨S512x512, .bf16⟩
  | .local _ .vmem, ⟨1, _⟩ => ⟨S1024x512, .bf16⟩
  | _, _ => ⟨S512x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v19 : BitVec 32 := Scalar.muli v2 c512_i32
  let v20 : Index := Scalar.indexCast v19
  let c0_13 : Index := 0#32
  ![v20.toNat, 0]
def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_14 : BitVec 32 := 512#32
  let v22 : BitVec 32 := Scalar.muli v2 c512_i32_14
  let c3_i32 : BitVec 32 := 3#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v25 : BitVec 32 := Scalar.muli c3_i32 v5
  let c128_i32 : BitVec 32 := 128#32
  let v26 : BitVec 32 := Scalar.muli v25 c128_i32
  let v29 : BitVec 32 := Scalar.addi v22 v26
  let c0_i32_22 : BitVec 32 := 0#32
  ![v29.toNat, 0]
def k0_dev3 (d0 : Dev nD) : Nat :=
  let c0_i32_20 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_19 : BitVec 32 := 2#32
  let v30 : BitVec 32 := Scalar.muli v6 c2_i32_19
  let v31 : BitVec 32 := Scalar.addi c0_i32_20 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_21 : BitVec 32 := 1#32
  let v32 : BitVec 32 := Scalar.muli v5 c1_i32_21
  let v33 : BitVec 32 := Scalar.addi v31 v32
  v33.toNat
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_14 : BitVec 32 := 512#32
  let v22 : BitVec 32 := Scalar.muli v2 c512_i32_14
  let c3_i32 : BitVec 32 := 3#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v25 : BitVec 32 := Scalar.muli c3_i32 v5
  let c128_i32 : BitVec 32 := 128#32
  let v26 : BitVec 32 := Scalar.muli v25 c128_i32
  let c64_i32 : BitVec 32 := 64#32
  let v27 : BitVec 32 := Scalar.addi v26 c64_i32
  let v41 : BitVec 32 := Scalar.addi v22 v27
  let c0_i32_29 : BitVec 32 := 0#32
  ![v41.toNat, 0]
def k0_dev4 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v42 : BitVec 32 := Scalar.muli v6 c2_i32_26
  let v43 : BitVec 32 := Scalar.addi c0_i32_27 v42
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v44 : BitVec 32 := Scalar.muli v5 c1_i32_28
  let v45 : BitVec 32 := Scalar.addi v43 v44
  v45.toNat
def k0_off4 (d0 : Dev nD) (c128_i32_32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_14 : BitVec 32 := 512#32
  let v22 : BitVec 32 := Scalar.muli v2 c512_i32_14
  let v53 : BitVec 32 := Scalar.addi v22 c128_i32_32
  let c0_i32_38 : BitVec 32 := 0#32
  ![v53.toNat, 0]
def k0_dev5 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v54 : BitVec 32 := Scalar.muli v6 c2_i32_35
  let v55 : BitVec 32 := Scalar.addi c0_i32_36 v54
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v56 : BitVec 32 := Scalar.muli v5 c1_i32_37
  let v57 : BitVec 32 := Scalar.addi v55 v56
  v57.toNat
def k0_dev6 (d0 : Dev nD) : Nat :=
  let c0_i32_44 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_43 : BitVec 32 := 2#32
  let v66 : BitVec 32 := Scalar.muli v6 c2_i32_43
  let v67 : BitVec 32 := Scalar.addi c0_i32_44 v66
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v68 : BitVec 32 := Scalar.muli v5 c1_i32_45
  let v69 : BitVec 32 := Scalar.addi v67 v68
  v69.toNat
def k0_off5 (d0 : Dev nD) (c0_i32_48 : BitVec 32) : Fin 2 → Nat :=
  let c1_i32_15 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v23 : BitVec 32 := Scalar.subi c1_i32_15 v2
  let c512_i32_16 : BitVec 32 := 512#32
  let v24 : BitVec 32 := Scalar.muli v23 c512_i32_16
  let c3_i32 : BitVec 32 := 3#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v25 : BitVec 32 := Scalar.muli c3_i32 v5
  let c128_i32 : BitVec 32 := 128#32
  let v26 : BitVec 32 := Scalar.muli v25 c128_i32
  let v76 : BitVec 32 := Scalar.addi v26 c0_i32_48
  let v86 : BitVec 32 := Scalar.addi v24 v76
  let c0_i32_61 : BitVec 32 := 0#32
  ![v86.toNat, 0]
def k0_dev7 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v87 : BitVec 32 := Scalar.muli v2 c2_i32_58
  let v88 : BitVec 32 := Scalar.addi c0_i32_59 v87
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_60 : BitVec 32 := 1#32
  let v89 : BitVec 32 := Scalar.muli v7 c1_i32_60
  let v90 : BitVec 32 := Scalar.addi v88 v89
  v90.toNat
def k0_dev8 (d0 : Dev nD) : Nat :=
  let c0_i32_74 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_73 : BitVec 32 := 2#32
  let v108 : BitVec 32 := Scalar.muli v2 c2_i32_73
  let v109 : BitVec 32 := Scalar.addi c0_i32_74 v108
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_75 : BitVec 32 := 1#32
  let v110 : BitVec 32 := Scalar.muli v7 c1_i32_75
  let v111 : BitVec 32 := Scalar.addi v109 v110
  v111.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩

abbrev nBuf : Space → Nat
  | .hbm => 1
  | .vmem => 0
  | .smem => 0
  | _ => 0

abbrev bufTy : (tb : Table) → Fin (tcTables nBuf tb) → BufTy
  | .hbm, ⟨0, _⟩ => ⟨S1024x512, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Pieces.lean ====
/-
The mesh, and the row ranges of the result buffer that move between its devices.

Device `c` of the 2×2 mesh sits at `x = c / 2`, `y = c % 2`. `xn c` is its neighbour across the `x` axis,
`yn c` the one across the `y` axis; each map is its own inverse, and the two commute.

The result buffer of a device has 1024 rows. The device's own block fills the half starting at row `512 * x`;
the other half comes from elsewhere. Every transfer moves a range of whole rows to the same rows of the
neighbour's buffer. The twelve transfer semaphores of a device are numbered 0 to 11, and semaphore `k` stands
for the row range of its OWN buffer that a wait on it gives back:
* 0–3: a piece of the own half, read by a transfer across `x`;
* 4–7: a piece of the other half, written by the `x` neighbour;
* 8–9: one of the first two of those pieces again, read by a transfer across `y`;
* 10–11: a piece of the other half, written by the `y` neighbour.
-/
module

public import proofs.«01_k».proof.Proof.Gen.KernelIdeal
public import proofs.«01_k».proof.Proof.Gen.KernelIdeal.Launch

@[expose] public section

noncomputable section

namespace Cert.Gather

open Cert.KernelIdeal Cert.KernelIdeal.Gen
open Idealize.ShloMosaic Idealize.ShloMosaic.TcCoe

/-! ## The mesh -/

set_option backward.proofsInPublic true in
/-- The neighbour across the `x` axis. -/
def xn (c : Dev nD) : Dev nD := ⟨(c.val + 2) % 4, Nat.mod_lt _ (by decide)⟩
set_option backward.proofsInPublic true in
/-- The neighbour across the `y` axis. -/
def yn (c : Dev nD) : Dev nD := ⟨2 * (c.val / 2) + (1 - c.val % 2), by have : c.val < 4 := c.isLt; show _ < 4; omega⟩

theorem xn_xn (c : Dev nD) : xn (xn c) = c := by revert c; decide
theorem yn_yn (c : Dev nD) : yn (yn c) = c := by revert c; decide

/-- Crossing `x`, as a bijection of the devices. -/
def xflip : Dev nD ≃ Dev nD := ⟨xn, xn, xn_xn, xn_xn⟩
/-- Crossing `y`, as a bijection of the devices. -/
def yflip : Dev nD ≃ Dev nD := ⟨yn, yn, yn_yn, yn_yn⟩

/-- The device the program names at its first signal and at its four `x` transfers. -/
theorem dev1_xn (c : Dev nD) : (⟨k0_dev1 c, k0_dev1_lt c⟩ : Dev nD) = xn c := by revert c; decide +kernel
theorem dev3_xn (c : Dev nD) : (⟨k0_dev3 c, k0_dev3_lt c⟩ : Dev nD) = xn c := by revert c; decide +kernel
theorem dev4_xn (c : Dev nD) : (⟨k0_dev4 c, k0_dev4_lt c⟩ : Dev nD) = xn c := by revert c; decide +kernel
theorem dev5_xn (c : Dev nD) : (⟨k0_dev5 c, k0_dev5_lt c⟩ : Dev nD) = xn c := by revert c; decide +kernel
theorem dev6_xn (c : Dev nD) : (⟨k0_dev6 c, k0_dev6_lt c⟩ : Dev nD) = xn c := by revert c; decide +kernel
/-- The device it names at its second signal and at its two `y` transfers. -/
theorem dev2_yn (c : Dev nD) : (⟨k0_dev2 c, k0_dev2_lt c⟩ : Dev nD) = yn c := by revert c; decide +kernel
theorem dev7_yn (c : Dev nD) : (⟨k0_dev7 c, k0_dev7_lt c⟩ : Dev nD) = yn c := by revert c; decide +kernel
theorem dev8_yn (c : Dev nD) : (⟨k0_dev8 c, k0_dev8_lt c⟩ : Dev nD) = yn c := by revert c; decide +kernel

/-! ## Row ranges -/

/-- The indices of the result buffer in the `h` rows from row `o`. -/
def rows (o h : ℕ) : Finset S1024x512.Idx := Finset.univ.filter fun i => o ≤ (i 0).val ∧ (i 0).val < o + h

theorem mem_rows {o h : ℕ} {i : S1024x512.Idx} : i ∈ rows o h ↔ o ≤ (i 0).val ∧ (i 0).val < o + h := by
  simp [rows]

/-- Row ranges one after the other share no index. -/
theorem rows_disjoint {o h o' h' : ℕ} (H : o + h ≤ o' ∨ o' + h' ≤ o) : Disjoint (rows o h) (rows o' h') := by
  refine Finset.disjoint_left.mpr fun i hi hi' => ?_
  rw [mem_rows] at hi hi'
  omega

/-- The row of the `i`-th piece of a block sent across `x`, for a device at `y`. -/
def cut (y : ℕ) : Fin 4 → ℕ
  | 0 => 384 * y | 1 => 384 * y + 64 | 2 => 128 | 3 => 256

/-- The first row of semaphore `k`'s range on device `c`. -/
def lo (c : Dev nD) : Fin 12 → ℕ
  | 0 => 512 * (c.val / 2) + cut (c.val % 2) 0
  | 1 => 512 * (c.val / 2) + cut (c.val % 2) 1
  | 2 => 512 * (c.val / 2) + cut (c.val % 2) 2
  | 3 => 512 * (c.val / 2) + cut (c.val % 2) 3
  | 4 | 8 => 512 * (1 - c.val / 2) + cut (c.val % 2) 0
  | 5 | 9 => 512 * (1 - c.val / 2) + cut (c.val % 2) 1
  | 6 => 512 * (1 - c.val / 2) + cut (c.val % 2) 2
  | 7 => 512 * (1 - c.val / 2) + cut (c.val % 2) 3
  | 10 => 512 * (1 - c.val / 2) + cut (1 - c.val % 2) 0
  | 11 => 512 * (1 - c.val / 2) + cut (1 - c.val % 2) 1

/-- How many rows it has. -/
def ht : Fin 12 → ℕ
  | 2 | 3 | 6 | 7 => 128
  | 0 | 1 | 4 | 5 | 8 | 9 | 10 | 11 => 64

/-- Semaphore `k`'s range on device `c`. -/
def piece (c : Dev nD) (k : Fin 12) : Finset S1024x512.Idx := rows (lo c k) (ht k)

/-- The half of the result buffer device `c` fills from its own block. -/
def ownHalf (c : Dev nD) : Finset S1024x512.Idx := rows (512 * (c.val / 2)) 512
/-- The quarter of its own half that a device sends to nobody. -/
def unsent (c : Dev nD) : Finset S1024x512.Idx := rows (512 * (c.val / 2) + 384 * (1 - c.val % 2)) 128

/-- The device semaphore `k` of device `c` is raised from (and, the map being its own inverse, the device whose
    semaphore `k` device `c` raises): itself for a read, the neighbour for a landing. -/
def peer : Fin 12 → Dev nD ≃ Dev nD
  | 4 | 5 | 6 | 7 => xflip
  | 10 | 11 => yflip
  | 0 | 1 | 2 | 3 | 8 | 9 => Equiv.refl _

theorem peer_peer (k : Fin 12) (c : Dev nD) : peer k (peer k c) = c := by revert k c; decide
theorem peer_symm (k : Fin 12) (c : Dev nD) : (peer k).symm c = peer k c := by
  rw [Equiv.symm_apply_eq, peer_peer]

/-- The six transfers of a device: transfer `j` raises the device's own semaphore `src j` when its range has been
    read and semaphore `dst j` of the neighbour when it has landed. Four cross `x`, then two cross `y`. -/
def src : Fin 6 → Fin 12 := ![0, 1, 2, 3, 8, 9]
def dst : Fin 6 → Fin 12 := ![4, 5, 6, 7, 10, 11]

theorem lo_send (c : Dev nD) (j : Fin 6) : lo (peer (dst j) c) (dst j) = lo c (src j) := by revert c j; decide
theorem ht_send (j : Fin 6) : ht (dst j) = ht (src j) := by revert j; decide

/-- The range a transfer reads is, on the neighbour, the range it writes. -/
theorem piece_send (c : Dev nD) (j : Fin 6) : piece (peer (dst j) c) (dst j) = piece c (src j) := by
  unfold piece; rw [lo_send, ht_send]

/-! ## The buffer taken apart -/

/-- A whole buffer is the own half and the six ranges that land in the other half. -/
def parts (c : Dev nD) : Fin 7 → Finset S1024x512.Idx
  | 0 => ownHalf c | 1 => piece c 4 | 2 => piece c 5 | 3 => piece c 6 | 4 => piece c 7 | 5 => piece c 10 | 6 => piece c 11

/-- The own half is the four ranges sent across `x` and the quarter that is not sent. -/
def halfParts (c : Dev nD) : Fin 5 → Finset S1024x512.Idx
  | 0 => piece c 0 | 1 => piece c 1 | 2 => piece c 2 | 3 => piece c 3 | 4 => unsent c

/-- The first row and the height of each part. -/
def partLo (c : Dev nD) : Fin 7 → ℕ
  | 0 => 512 * (c.val / 2) | 1 => lo c 4 | 2 => lo c 5 | 3 => lo c 6 | 4 => lo c 7 | 5 => lo c 10 | 6 => lo c 11
def partHt : Fin 7 → ℕ := ![512, 64, 64, 128, 128, 64, 64]
def halfLo (c : Dev nD) : Fin 5 → ℕ
  | 0 => lo c 0 | 1 => lo c 1 | 2 => lo c 2 | 3 => lo c 3 | 4 => 512 * (c.val / 2) + 384 * (1 - c.val % 2)
def halfHt : Fin 5 → ℕ := ![64, 64, 128, 128, 128]

theorem parts_eq (c : Dev nD) (t : Fin 7) : parts c t = rows (partLo c t) (partHt t) := by fin_cases t <;> rfl
theorem halfParts_eq (c : Dev nD) (t : Fin 5) : halfParts c t = rows (halfLo c t) (halfHt t) := by fin_cases t <;> rfl

theorem parts_apart (c : Dev nD) : ∀ t ∈ (Finset.univ : Finset (Fin 7)), ∀ t' ∈ (Finset.univ : Finset (Fin 7)), t ≠ t' →
    Disjoint (parts c t) (parts c t') := fun t _ t' _ h => by
  rw [parts_eq, parts_eq]
  exact rows_disjoint (by revert c t t'; decide)

theorem halfParts_apart (c : Dev nD) : ∀ t ∈ (Finset.univ : Finset (Fin 5)), ∀ t' ∈ (Finset.univ : Finset (Fin 5)), t ≠ t' →
    Disjoint (halfParts c t) (halfParts c t') := fun t _ t' _ h => by
  rw [halfParts_eq, halfParts_eq]
  exact rows_disjoint (by revert c t t'; decide)

/-- An index is in the union of row ranges when its row is in one of them. -/
theorem mem_biUnion_rows {n : ℕ} {A : Fin n → Finset S1024x512.Idx} {o h : Fin n → ℕ} (hA : ∀ t, A t = rows (o t) (h t))
    {i : S1024x512.Idx} : i ∈ Finset.univ.biUnion A ↔ ∃ t, o t ≤ (i 0).val ∧ (i 0).val < o t + h t := by
  simp only [Finset.mem_biUnion, Finset.mem_univ, true_and]
  exact exists_congr fun t => by rw [hA, mem_rows]

theorem parts_cover (c : Dev nD) : Finset.univ.biUnion (parts c) = Finset.univ := by
  ext i
  rw [mem_biUnion_rows (parts_eq c)]
  have hi : (i 0).val < 1024 := (i 0).isLt
  generalize (i 0).val = r at hi
  simp only [Finset.mem_univ, iff_true, Fin.exists_fin_succ]
  fin_cases c <;> simp [partLo, partHt, lo, cut] <;> omega

theorem halfParts_cover (c : Dev nD) : Finset.univ.biUnion (halfParts c) = ownHalf c := by
  ext i
  rw [mem_biUnion_rows (halfParts_eq c), ownHalf, mem_rows]
  generalize (i 0).val = r
  simp only [Fin.exists_fin_succ]
  fin_cases c <;> simp [halfLo, halfHt, lo, cut] <;> omega

/-! ## Where a row comes from -/

/-- The device whose block row `r` of device `c`'s finished buffer comes from: `c` itself in its own half; in the
    other half the `x` neighbour, or the device across both axes for the rows the `y` neighbour forwards. -/
def origin (c : Dev nD) (r : ℕ) : Dev nD :=
  if r / 512 = c.val / 2 then c
  else if 384 * (1 - c.val % 2) ≤ r % 512 ∧ r % 512 < 384 * (1 - c.val % 2) + 128 then xn (yn c)
  else xn c

theorem origin_own {c : Dev nD} {i : S1024x512.Idx} (h : i ∈ ownHalf c) : origin c (i 0).val = c := by
  rw [ownHalf, mem_rows] at h
  exact if_pos (by omega)

/-- A transferred row comes from the same device at both ends. -/
theorem origin_send (c : Dev nD) (j : Fin 6) {i : S1024x512.Idx} (h : i ∈ piece c (src j)) :
    origin (peer (dst j) c) (i 0).val = origin c (i 0).val := by
  rw [piece, mem_rows] at h
  generalize (i 0).val = r at h
  unfold origin
  fin_cases c <;> fin_cases j <;> simp [src, dst, lo, ht, cut, peer, xflip, yflip, xn, yn] at h ⊢ <;>
    (repeat' split) <;> first | rfl | omega

/-! ## The program's row ranges -/

/-- The elements under a slice of whole rows of the result buffer. -/
theorem slice_rows {o : ℕ} {off size : Fin 2 → ℕ} (inb : ∀ a, off a + size a ≤ S1024x512.size a) (h0 : off = ![o, 0])
    (h1 : size 1 = 512) :
    ((Memref.whole cc0_stg1_0 : Memref sig .tc .vmem S1024x512 .bf16).slice (Rect.unit (s := S1024x512) off size inb) (fun _ => rfl)).view.set
      = rows o (size 0) := by
  subst h0
  refine (View.set_slice_whole cc0_stg1_0 (Rect.unit (s := S1024x512) ![o, 0] size inb)).trans ?_
  ext i
  have hi : (i 1).val < 512 := (i 1).isLt
  rw [Rect.mem_set_unit, mem_rows]
  refine (show _ ↔ ∀ a : Fin 2, (![o, 0] : Fin 2 → ℕ) a ≤ (i a).val ∧ (i a).val < (![o, 0] : Fin 2 → ℕ) a + size a from Iff.rfl).trans ?_
  rw [Fin.forall_fin_two, h1]
  simp only [Matrix.cons_val_zero, Matrix.cons_val_one]
  omega

end Cert.Gather

end
-- ==== Proof.Protocol.lean ====
/-
Who raises which semaphore, by how much, and what the raise hands over.

Every semaphore is used once. A device's barrier semaphore is raised by one from each neighbour: the `x`
neighbour's raise hands over the four ranges of ITS buffer this device will write, the `y` neighbour's the two.
Each of the twelve transfer semaphores is raised once by the credit of its range and hands over that range of
the owner's own buffer, holding what the finished buffer holds there.
-/
module

public import proofs.«01_k».proof.Proof.Pieces
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's own, and one account of rounds for the kernel's semaphores. -/
abbrev UG : Type := UR sig nD τ × URounds (GSem nD τ sig) Bool

local notation "𝕄" => MT nD τ sig Unit (Elt F) ℕ UG ℕ

abbrev EL : Emb (UR sig nD τ) (MT nD τ sig Unit (Elt F) ℕ UG ℕ) := embL
abbrev EG : Emb (URounds (GSem nD τ sig) Bool) (MT nD τ sig Unit (Elt F) ℕ UG ℕ) := embR

variable (m : (ℓ : Loc nD τ sig) → Buf (Elt F) ℓ)

/-! ## Semaphores -/

/-- The barrier semaphore, which outlives the launch. -/
abbrev barS : Sem sig := (SemArray.scalar (sig.barrier 0 rfl) : Sems sig S_).sem
set_option backward.proofsInPublic true in
/-- Transfer semaphore `k`. -/
def dq (k : Fin 12) : DmaSem sig := ⟨k.val + 2, by have := k.isLt; show k.val + 2 < 14; omega⟩

/-- The number of a transfer semaphore of the kernel's; none for the two that stage the operands. -/
def slot (q : DmaSem sig) : Option (Fin 12) := if h : 2 ≤ q.val then some ⟨q.val - 2, by have : q.val < 14 := q.isLt; omega⟩ else none

theorem slot_dq (k : Fin 12) : slot (dq k) = some k := by revert k; decide

abbrev bcell (c : Dev nD) : GSem nD τ sig := ((c : Thread nD τ), .reg barS)
abbrev dcell (c : Dev nD) (k : Fin 12) : GSem nD τ sig := ((c : Thread nD τ), .dma (dq k))

/-- The credit of a range: what its transfer raises a semaphore by. -/
def amt : Fin 12 → ℕ
  | 2 | 3 | 6 | 7 => (cc0_stg1_0 : Ref sig .tc).dmaCredit S128x512 .bf16
  | 0 | 1 | 4 | 5 | 8 | 9 | 10 | 11 => (cc0_stg1_0 : Ref sig .tc).dmaCredit S64x512 .bf16

theorem amt_pos (k : Fin 12) : 0 < amt k := by
  fin_cases k <;> exact RefSig.dmaCredit_pos _ _ _ _ _ _ (by decide)
theorem amt_send (j : Fin 6) : amt (dst j) = amt (src j) := by fin_cases j <;> rfl

/-! ## Contents -/

/-- Device `c`'s block of the operand, as staged. -/
def xblk (c : Dev nD) : (cc0_stg0_0 : Ref sig .tc).ty.Contents (Elt F) :=
  (win0_0.blk (0 : Fin 1)).view.read (Elt F) (m ((c : Thread nD τ).loc main_arg0))

/-- Where, within its block, an element of the result lies. -/
def inBlock (i : S1024x512.Idx) : S512x512.Idx := fun a =>
  ⟨if a = 0 then (i 0).val % 512 else (i 1).val, by
    have h : (i 1).val < 512 := (i 1).isLt
    fin_cases a
    · exact Nat.mod_lt _ (by decide)
    · exact h⟩

/-- Device `c`'s finished result buffer: each row from the block of the device it originates at. -/
def full (c : Dev nD) : (cc0_stg1_0 : Ref sig .tc).ty.Contents (Elt F) :=
  fun i : S1024x512.Idx => xblk m (origin c (i 0).val) (inBlock i)

/-- The result buffer's memref. -/
abbrev oM : Memref sig .tc .vmem S1024x512 .bf16 := Memref.whole cc0_stg1_0
/-- The operand buffer's memref. -/
abbrev iM : Memref sig .tc .vmem S512x512 .bf16 := Memref.whole cc0_stg0_0

/-- Device `c` holds the elements `I` of its result buffer, at contents `f`. -/
def rng (c : Dev nD) (I : Finset S1024x512.Idx) (f : (cc0_stg1_0 : Ref sig .tc).ty.Contents (Elt F)) : sProp 𝕄 :=
  ((c : Thread nD τ).loc cc0_stg1_0) ↦[I]{fullShare} f

/-- Range `k` of device `c`, finished. -/
def done (c : Dev nD) (k : Fin 12) : sProp 𝕄 := rng c (piece c k) (full m c)
/-- Range `k` of device `c`, holding anything. -/
def slack (c : Dev nD) (k : Fin 12) : sProp 𝕄 := iprop(∃ f, rng c (piece c k) f)

instance rng_storable (c : Dev nD) (I : Finset S1024x512.Idx) (f) : BI.Storable (upEmb : UEmb _ 𝕄) (rng (F := F) c I f) := by
  unfold rng; infer_instance
instance done_storable (c : Dev nD) (k : Fin 12) : BI.Storable (upEmb : UEmb _ 𝕄) (done m c k) := by unfold done; infer_instance
instance slack_storable (c : Dev nD) (k : Fin 12) : BI.Storable (upEmb : UEmb _ 𝕄) (slack (F := F) c k) := by unfold slack; infer_instance

/-! ## The schedule -/

/-- What the raise of device `c`'s barrier hands it: from the `x` neighbour (`false`) the neighbour's four ranges,
    from the `y` neighbour (`true`) the two. -/
def lend (c : Dev nD) : Bool → sProp 𝕄
  | false => iprop(slack (xn c) 4 ∗ slack (xn c) 5 ∗ slack (xn c) 6 ∗ slack (xn c) 7)
  | true => iprop(slack (yn c) 10 ∗ slack (yn c) 11)

instance lend_storable (c : Dev nD) : (d : Bool) → BI.Storable (upEmb : UEmb _ 𝕄) (lend (F := F) c d)
  | false => by unfold lend; infer_instance
  | true => by unfold lend; infer_instance

/-- The raises due at a semaphore. -/
def duesAt : SemLoc sig → Finset Bool
  | .reg s => if s = barS then Finset.univ else ∅
  | .dma q => if (slot q).isSome then {false} else ∅
/-- How much one raises it by. -/
def amtAt : SemLoc sig → ℕ
  | .reg _ => 1
  | .dma q => ((slot q).map amt).getD 1
/-- What it hands over on device `c`. -/
def payAt (c : Dev nD) : SemLoc sig → Bool → sProp 𝕄
  | .reg _ => fun d => lend c d
  | .dma q => fun _ => match slot q with | some k => done m c k | none => iprop(emp)

/-- One round per semaphore. -/
def plan : Rounds.Schedule (GSem nD τ sig) Bool 𝕄 where
  duties g r := if r = 0 ∧ g.1.2 = .tc then duesAt g.2 else ∅
  unitless _ := False
  amount g _ _ := amtAt g.2
  payload g _ d := payAt m g.1.1 g.2 d
  amount_pos g r d _ := by
    obtain ⟨_, q | q⟩ := g
    · exact Nat.one_pos
    · show 0 < ((slot q).map amt).getD 1
      cases slot q with
      | none => exact Nat.one_pos
      | some k => exact amt_pos k

instance plan_storable (g : GSem nD τ sig) (r : ℕ) (d : Bool) : BI.Storable (upEmb : UEmb _ 𝕄) ((plan m).payload g r d) := by
  show BI.Storable upEmb (payAt m g.1.1 g.2 d)
  obtain ⟨⟨c, _⟩, q | q⟩ := g
  · exact lend_storable c d
  · show BI.Storable upEmb (match slot q with | some k => done m c k | none => iprop(emp))
    split <;> infer_instance

section Table
variable (c : Dev nD) (k : Fin 12)

theorem dues_bar : (plan m).duties (bcell c) 0 = Finset.univ := by
  dsimp only [plan]
  rw [if_pos ⟨rfl, rfl⟩]; unfold duesAt; exact if_pos rfl
theorem dues_dma : (plan m).duties (dcell c k) 0 = {false} := by
  dsimp only [plan, duesAt]
  rw [if_pos ⟨rfl, rfl⟩, slot_dq]; exact if_pos rfl
theorem dues_later (g : GSem nD τ sig) (r : ℕ) (hr : 1 ≤ r) : (plan m).duties g r = ∅ := if_neg fun h => by omega

theorem amount_bar (d : Bool) : (plan m).amount (bcell c) 0 d = 1 := rfl
theorem amount_dma (d : Bool) : (plan m).amount (dcell c k) 0 d = amt k := by
  show ((slot (dq k)).map amt).getD 1 = _; rw [slot_dq]; rfl
theorem pay_bar (d : Bool) : (plan m).payload (bcell c) 0 d = lend c d := rfl
theorem pay_dma (d : Bool) : (plan m).payload (dcell c k) 0 d = done m c k := by
  show (match slot (dq k) with | some k => done m c k | none => iprop(emp)) = _; rw [slot_dq]

theorem expect_bar : (plan m).expect (bcell c) 0 = 2 := by
  unfold Schedule.expect Schedule.amountOf; rw [dues_bar]; rfl
theorem expect_dma : (plan m).expect (dcell c k) 0 = amt k := by
  unfold Schedule.expect Schedule.amountOf; rw [dues_dma, Finset.sum_singleton, amount_dma]

theorem all_bar : bigSep ((plan m).duties (bcell c) 0 \ ∅) (fun d => (plan m).payload (bcell c) 0 d) = iprop(lend c false ∗ lend c true) := by
  rw [Finset.sdiff_empty, dues_bar, bigSep_univ_eq_bigSepL [false, true] (by decide) (by decide), bigSepL_cons_cons, bigSepL_singleton]
  rfl
theorem all_dma : bigSep ((plan m).duties (dcell c k) 0 \ ∅) (fun d => (plan m).payload (dcell c k) 0 d) = done m c k := by
  rw [Finset.sdiff_empty, dues_dma, bigSep_singleton, pay_dma]

end Table

/-! ## What a device owes -/

/-- The landing semaphore transfer `j` of device `c` raises. -/
abbrev landing (c : Dev nD) (j : Fin 6) : GSem nD τ sig := dcell (peer (dst j) c) (dst j)

/-- What device `c` owes while the transfers `js` are still to be made. -/
def owe (c : Dev nD) : List (Fin 6) → CellTallies nD τ sig Unit
  | [] => 0
  | j :: js => owe c js + tallyAt (landing c j) () (amt (dst j))

/-- At launch: all six transfers, then the two barrier signals. -/
def owe₁ (c : Dev nD) : CellTallies nD τ sig Unit := owe c [0, 1, 2, 3, 4, 5] + tallyAt (bcell (yn c)) () 1
def owe₀ (c : Dev nD) : CellTallies nD τ sig Unit := owe₁ c + tallyAt (bcell (xn c)) () 1

theorem owe_pos {c : Dev nD} {g : GSem nD τ sig} {u : Unit} : {js : List (Fin 6)} → 0 < owe c js g u → ∃ j ∈ js, g = landing c j
  | [], h => absurd h (Nat.lt_irrefl 0)
  | j :: js, h => by
    unfold owe at h
    rw [Pi.add_apply, Finsupp.add_apply, tallyAt_apply] at h
    by_cases hg : g = landing c j
    · exact ⟨j, List.mem_cons_self, hg⟩
    · rw [if_neg fun h' => hg h'.1] at h
      obtain ⟨i, hi, e⟩ := owe_pos (js := js) h
      exact ⟨i, List.mem_cons_of_mem _ hi, e⟩

theorem owe₀_pos {c : Dev nD} {g : GSem nD τ sig} {u : Unit} (h : 0 < owe₀ c g u) :
    (∃ j, g = landing c j) ∨ g = bcell (yn c) ∨ g = bcell (xn c) := by
  by_contra hn
  rw [not_or, not_or] at hn
  unfold owe₀ owe₁ at h
  rw [Pi.add_apply, Finsupp.add_apply, Pi.add_apply, Finsupp.add_apply, tallyAt_apply, tallyAt_apply,
    if_neg (fun h' => hn.2.1 h'.1), if_neg (fun h' => hn.2.2 h'.1)] at h
  obtain ⟨j, -, e⟩ := owe_pos (show 0 < owe c [0, 1, 2, 3, 4, 5] g u from h)
  exact hn.1 ⟨j, e⟩

/-! ## The order of waiting -/

/-- The tier of a transfer semaphore: reads and staging below everything, then landings across `x`, then across `y`. -/
def tier (q : DmaSem sig) : ℕ := if 12 ≤ q.val then 3 else if 6 ≤ q.val ∧ q.val < 10 then 2 else 0

def L (g : GSem nD τ sig) : Finset Unit := if g.1.2 = .tc then {()} else ∅
/-- A device waits only on a semaphore below all it still owes; the barrier sits between reads and landings. -/
def lv (g : GSem nD τ sig) (_ : Unit) : ℕ := match g.2 with | .reg _ => 1 | .dma q => tier q

theorem L_core (c : Dev nD) (sm : SemLoc sig) : L ((c : Thread nD τ), sm) = {()} := if_pos rfl
theorem L_other (g : GSem nD τ sig) (h : g.1.2 ≠ .tc) : L g = ∅ := if_neg h

/-- A wait is allowed when everything owed is on a core and sits strictly above. -/
theorem mayWait_of (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_core]; exact Finset.mem_singleton_self _)
    (fun g u hg => by unfold L; rw [if_pos (h g u hg).1]; exact Finset.mem_singleton_self _)
    (fun p hp => by rw [Finset.mem_singleton.mp hp])
    (fun g u hg => (h g u hg).2)

/-- With only transfers left to make. -/
theorem mayWait_owe (c : Dev nD) (sm : SemLoc sig) (js : List (Fin 6))
    (h : ∀ j ∈ js, lv ((c : Thread nD τ), sm) () < tier (dq (dst j))) :
    (levAts L lv : sProp 𝕄) ⊢ MayWait (c : Thread nD τ) sm () (owe c js) :=
  mayWait_of c sm _ fun g u hg => by
    obtain ⟨j, hj, rfl⟩ := owe_pos hg
    exact ⟨rfl, h j hj⟩

/-- With everything still owed a device may wait on what stages its operands. -/
theorem mayWait_staging (c : Dev nD) (q : DmaSem sig) (hq : tier q = 0) :
    (levAts L lv : sProp 𝕄) ⊢ MayWait (c : Thread nD τ) (.dma q) () (owe₀ c) :=
  mayWait_of c _ _ fun g u hg => by
    rcases owe₀_pos hg with ⟨j, rfl⟩ | rfl | rfl
    · refine ⟨rfl, ?_⟩
      show tier q < tier (dq (dst j))
      rw [hq]; clear hg; revert j; decide
    · exact ⟨rfl, by show tier q < 1; rw [hq]; decide⟩
    · exact ⟨rfl, by show tier q < 1; rw [hq]; decide⟩

end Cert.Gather

end
-- ==== Proof.Steps.lean ====
/-
One lemma per kind of step the kernel takes: a signal to a neighbour's barrier, the wait on the own barrier, a
transfer to a neighbour, and the wait on a transfer semaphore. Each takes what the step needs and says what the
program has when it goes on.
-/
module

public import proofs.«01_k».proof.Proof.Protocol

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UG ℕ

variable (m : (ℓ : Loc nD τ sig) → Buf (Elt F) ℓ)

/-! ## The standing records -/

/-- The kernel's semaphores on a device: the barrier (`none`) and the twelve transfer semaphores. -/
def semOf : Option (Fin 12) → SemLoc sig
  | none => .reg barS | some k => .dma (dq k)
/-- A semaphore of a device. -/
def cellAt (ck : Dev nD × Option (Fin 12)) : GSem nD τ sig := ((ck.1 : Thread nD τ), semOf ck.2)

/-- Every semaphore's account is open under some name, and stands at its round. Nothing of it is used up. -/
def records (K : Dev nD × Option (Fin 12) → ℕ) : sProp 𝕄 :=
  iprop((bigSep Finset.univ fun ck : Dev nD × Option (Fin 12) => cellInv EG (plan m) (K ck) (cellAt ck))
    ∗ bigSep Finset.univ fun ck : Dev nD × Option (Fin 12) => reached EG (cellAt ck) 0)

instance records_persistent (K : Dev nD × Option (Fin 12) → ℕ) : BI.Persistent (records m K) := by unfold records; infer_instance

theorem record (K : Dev nD × Option (Fin 12) → ℕ) (ck : Dev nD × Option (Fin 12)) :
    records m K ⊢ iprop(cellInv EG (plan m) (K ck) (cellAt ck) ∗ reached EG (cellAt ck) 0) := by
  unfold records
  exact BI.sep_mono (bigSep_elim (Finset.mem_univ ck)) (bigSep_elim (Finset.mem_univ ck))

theorem record_bar (K : Dev nD × Option (Fin 12) → ℕ) (c : Dev nD) :
    records m K ⊢ iprop(cellInv EG (plan m) (K (c, none)) (bcell c) ∗ reached EG (bcell c) 0) := record m K (c, none)
theorem record_dma (K : Dev nD × Option (Fin 12) → ℕ) (c : Dev nD) (k : Fin 12) :
    records m K ⊢ iprop(cellInv EG (plan m) (K (c, some k)) (dcell c k) ∗ reached EG (dcell c k) 0) := record m K (c, some k)

/-- Device `c` owes `O`, whatever it has waited on. -/
def owing (c : Dev nD) (O : CellTallies nD τ sig Unit) : sProp 𝕄 := iprop(∃ W, owes (c : Thread nD τ) O W)

abbrev noVar : Variants := Variants.none

variable (K : Dev nD × Option (Fin 12) → ℕ) (c : Dev nD)

/-! ## The barrier -/

/-- A signal to a neighbour's barrier: it pays one unit owed and hands the neighbour what it lends. -/
theorem step_signal {n p : Dev nD} (hn : n = p) (d : Bool) (O : CellTallies nD τ sig Unit)
    {α : Type} {k : PUnit → Prog (TpuEff nD τ sig (Elt F) Λ₀ .tc) α} {Q : α → sProp 𝕄} :
    iprop(records m K ∗ owing c (O + tallyAt (bcell p) () 1) ∗ dutyTok EG (bcell p) 0 d ∗ lend p d)
      ⊢ iprop((owing c O -∗ wp frame (wpE (defs₀ (F := F)) noVar (c : Thread nD τ) none) Set.univ (k ⟨⟩) Q)
          -∗ wp frame (wpE (defs₀ (F := F)) noVar (c : Thread nD τ) none) Set.univ (.op (.semSignal (n : Thread nD τ) barS 1) k) Q) := by
  subst hn
  unfold owing
  iintro ⟨#HR, ⟨%W, Ho⟩, Ht, Hl⟩ Hk
  ihave Hr := (record_bar m K n) $$ HR
  icases Hr with ⟨#Hi, #Hr⟩
  iapply (Rounds.wp_signal noVar EG (plan m) (c : Thread nD τ) none (dst := (n : Thread nD τ)) (κ := K (n, none)) (d := d)
      (by rw [dues_bar]; exact Finset.mem_univ _) (amount_bar m n d) () O rfl) $$ [Ho Ht Hl]
  · isplitr; · iexact Hi
    isplitl [Ho]; · iexact Ho
    isplitl [Ht]; · iexact Ht
    isplitl [Hl]; · rw [pay_bar]; iexact Hl
    iexact Hr
  iintro Ho
  iapply Hk
  iexists W; iexact Ho

/-- The wait on the own barrier: both neighbours' ranges are lent, and the barrier is back at zero for good. -/
theorem step_meet (js : List (Fin 6)) (hjs : ∀ j ∈ js, 1 < tier (dq (dst j)))
    {α : Type} {k : PUnit → Prog (TpuEff nD τ sig (Elt F) Λ₀ .tc) α} {Q : α → sProp 𝕄} :
    iprop(records m K ∗ owing c (owe c js) ∗ levAts L lv ∗ cred (tallyAt (bcell c) () 2) ∗ atPos EG (bcell c) 0 ∅ 0)
      ⊢ iprop(((owing c (owe c js) ∗ semVal (bcell c) 0 ∗ lend c false ∗ lend c true)
            -∗ wp frame (wpE (defs₀ (F := F)) noVar (c : Thread nD τ) none) Set.univ (k ⟨⟩) Q)
          -∗ wp frame (wpE (defs₀ (F := F)) noVar (c : Thread nD τ) none) Set.univ (.op (.semWait barS 2) k) Q) := by
  unfold owing
  iintro ⟨#HR, ⟨%W, Ho⟩, #Hlev, Hc, Hat⟩ Hk
  ihave Hr := (record_bar m K c) $$ HR
  icases Hr with ⟨#Hi, -⟩
  iapply (Rounds.wp_wait_rest_token noVar EG (plan m) (c : Thread nD τ) none (κ := K (c, none))
      (wpE_semWait_eq noVar (c : Thread nD τ) none Set.univ) (Set.mem_univ _) () (O := owe c js) (W := W) (R := 0) (m := 0) (T := ∅)
      (by rw [expect_bar])) $$ [Hc Ho Hat]
  · isplitr; · iexact Hi
    isplitl [Hc]; · iexact Hc
    isplitl [Ho]; · iexact Ho
    isplitr; · iapply (mayWait_owe c (.reg barS) js hjs); iexact Hlev
    iexact Hat
  iintro ⟨Ho, Hat, -, Hp⟩
  ihave Hp := (Entails.of_eq (all_bar m c)) $$ Hp
  icases Hp with ⟨Hx, Hy⟩
  imod (Rounds.cell_close EG (plan m) (Set.mem_univ (K (c, none))) (fun h => h) (R := 0 + 1) (dues_later m (bcell c))) $$ [Hat] with Hz
  · isplitr; · iexact Hi
    iexact Hat
  iapply Hk
  isplitl [Ho]; · iexists _; iexact Ho
  isplitl [Hz]; · iexact Hz
  isplitl [Hx] <;> iassumption

/-! ## Transfers -/

/-- The program's slice of the result buffer: `size` elements from `off`. -/
abbrev cutOut (off size : Fin 2 → ℕ) (inb : ∀ a, off a + size a ≤ S1024x512.size a) :
    Memref sig .tc .vmem (Rect.unit (s := S1024x512) off size inb).shape .bf16 :=
  oM.slice (Rect.unit (s := S1024x512) off size inb) (fun _ => rfl)

/-- A range's transfer credit is that of its shape: 64 rows, -/
theorem credit64 (i : Fin 12) (h : ht i = 64) {off : Fin 2 → ℕ} {inb : ∀ a, off a + S64x512.size a ≤ S1024x512.size a} :
    (cutOut off S64x512.size inb).view.dmaCredit = amt i := by
  have e : amt i = (cc0_stg1_0 : Ref sig .tc).dmaCredit S64x512 .bf16 := by
    fin_cases i <;> first | exact absurd h (by decide) | (unfold amt; rfl)
  exact (View.dmaCredit_ref _).symm.trans e.symm

/-- or 128. -/
theorem credit128 (i : Fin 12) (h : ht i = 128) {off : Fin 2 → ℕ} {inb : ∀ a, off a + S128x512.size a ≤ S1024x512.size a} :
    (cutOut off S128x512.size inb).view.dmaCredit = amt i := by
  have e : amt i = (cc0_stg1_0 : Ref sig .tc).dmaCredit S128x512 .bf16 := by
    fin_cases i <;> first | exact absurd h (by decide) | (unfold amt; rfl)
  exact (View.dmaCredit_ref _).symm.trans e.symm

/-- Writing through a view what was read through it changes nothing under it but to what was read. -/
theorem write_read_at {v : View sig .tc .vmem S1024x512 .bf16} (r : Rect S1024x512) (fd fs : v.ty.Contents (Elt F)) {i : v.ty.Idx} (hi : i ∈ (v.slice r).set) :
    (v.slice r).write (Elt F) fd ((v.slice r).read (Elt F) fs) Finset.univ i = fs i := by
  obtain ⟨x, -, rfl⟩ := Finset.mem_map.mp hi
  rw [View.write_emb_of_mem _ _ (Finset.mem_univ x), View.read_apply, cast_cast, cast_eq]

section Send
variable (j : Fin 6) {off size : Fin 2 → ℕ} {inb : ∀ a, off a + size a ≤ S1024x512.size a}

theorem cutOut_set (hoff : off = ![lo c (src j), 0]) (hsize : size 0 = ht (src j)) (hw : size 1 = 512) :
    (cutOut off size inb).view.set = piece c (src j) := by
  rw [piece, ← hsize]; exact slice_rows inb hoff hw

/-- What transfer `j` leaves on the neighbour is the range the neighbour waits for, finished. -/
theorem landed (hset : (cutOut off size inb).view.set = piece c (src j)) (fd : S1024x512.Idx → Elt F .bf16) :
    rng (peer (dst j) c) (cutOut off size inb).view.set
        ((cutOut off size inb).view.write (Elt F) fd ((cutOut off size inb).view.read (Elt F) (full m c)) Finset.univ)
      = done m (peer (dst j) c) (dst j) := by
  unfold done rng
  rw [piece_send, ← hset]
  refine pointsTo_congr fun i hi => (write_read_at _ _ _ hi).trans ?_
  show xblk m _ _ = xblk m _ _
  rw [origin_send c j (by rw [← hset]; exact hi)]

/-- The library's rule for an addressed transfer, at transfer `j`. -/
theorem send_rule (js : List (Fin 6)) (hset : (cutOut off size inb).view.set = piece c (src j)) (fd : S1024x512.Idx → Elt F .bf16) (W : Waits sig Unit)
    (hN : (cutOut off size inb).view.dmaCredit = amt (src j))
    {hsc : (cutOut off size inb : Memref sig (Dev.tc (peer (dst j) c) : Thread nD τ).2.kind .vmem _ .bf16).view.ref.isScScratch = false}
    {hsrc : (cutOut off size inb).view.WordExact} {hdst : (cutOut off size inb).view.WordExact}
    {hsem : DmaTarget.Typed .vmem (.dma (dq (dst j))) (.remote (Dev.tc (peer (dst j) c) : Thread nD τ) (cutOut off size inb) (.dma (dq (src j))) hsc)}
    {α : Type} {k : PUnit → Prog (TpuEff nD τ sig (Elt F) Λ₀ .tc) α} {Q : α → sProp 𝕄} :
    iprop(cellInv EG (plan m) (K (c, some (src j))) (dcell c (src j)) ∗ cellInv EG (plan m) (K (peer (dst j) c, some (dst j))) (landing c j)
        ∗ rng c (cutOut off size inb).view.set (full m c) ∗ rng (peer (dst j) c) (cutOut off size inb).view.set fd
        ∗ owes (c : Thread nD τ) (owe c (j :: js)) W
        ∗ dutyTok EG (dcell c (src j)) 0 false ∗ reached EG (dcell c (src j)) 0
        ∗ dutyTok EG (landing c j) 0 false ∗ reached EG (landing c j) 0)
      ⊢ iprop(((cred (tallyAt (dcell c (src j)) () (amt (src j))) ∗ owes (c : Thread nD τ) (owe c js) W)
            -∗ wp frame (wpE (defs₀ (F := F)) noVar (c : Thread nD τ) none) Set.univ (k ⟨⟩) Q)
          -∗ wp frame (wpE (defs₀ (F := F)) noVar (c : Thread nD τ) none) Set.univ
              (.op (.enqueueDma (cutOut off size inb) (.remote (Dev.tc (peer (dst j) c) : Thread nD τ) (cutOut off size inb) (.dma (dq (src j))) hsc)
                (.dma (dq (dst j))) hsrc hdst hsem) k) Q) := by
  have h1 : rng c (cutOut off size inb).view.set (full m c) ⊢ (plan m).payload (dcell c (src j)) 0 false := by
    rw [pay_dma, hset]; exact BI.Entails.refl _
  have h2 : rng (peer (dst j) c) (cutOut off size inb).view.set
        ((cutOut off size inb).view.write (Elt F) fd ((cutOut off size inb).view.read (Elt F) (full m c)) Finset.univ)
      ⊢ (plan m).payload (landing c j) 0 false := by
    rw [landed m c j hset fd]; unfold landing; rw [pay_dma]
  exact Rounds.wp_send_pointsTo noVar EG (plan m) (c : Thread nD τ) none (κ₁ := K (c, some (src j))) (κ₂ := K (peer (dst j) c, some (dst j)))
    (c' := (Dev.tc (peer (dst j) c) : Thread nD τ)) (src := cutOut off size inb) (dst := cutOut off size inb) (sS := .dma (dq (src j))) (sem := .dma (dq (dst j)))
    (r₁ := 0) (r₂ := 0) (d₁ := false) (d₂ := false) (fs := full m c) (fd := fd) (q := fullShare)
    (by rw [dues_dma]; exact Finset.mem_singleton_self _) (by rw [dues_dma]; exact Finset.mem_singleton_self _)
    () () (amt (src j)) hN (amount_dma m c (src j) false) ((amount_dma m _ (dst j) false).trans (amt_send j))
    (owe c js) (by rw [← amt_send j]; rfl) (W := W) h1 h2

/-- Transfer `j`, from semaphore `s` here to semaphore `d` on device `p`: it takes the range to be read, finished, and
    the neighbour's range, holding anything, and pays what was owed for it; the credit of the read comes back. -/
theorem step_send (js : List (Fin 6)) (s d : Fin 12) (hs : src j = s) (hd : dst j = d) {n p : Dev nD} (hn : n = p) (hp : peer d c = p) (hc : peer s c = c)
    {sS sR : DmaSem sig} (hS : sS = dq s) (hR : sR = dq d)
    (hoff : off = ![lo c s, 0]) (hsize : size 0 = ht s) (hw : size 1 = 512) (hN : (cutOut off size inb).view.dmaCredit = amt s)
    {hsc : (cutOut off size inb : Memref sig (Dev.tc n : Thread nD τ).2.kind .vmem _ .bf16).view.ref.isScScratch = false}
    {hsrc : (cutOut off size inb).view.WordExact} {hdst : (cutOut off size inb).view.WordExact}
    {hsem : DmaTarget.Typed .vmem (.dma sR) (.remote (Dev.tc n : Thread nD τ) (cutOut off size inb) (.dma sS) hsc)}
    {α : Type} {k : PUnit → Prog (TpuEff nD τ sig (Elt F) Λ₀ .tc) α} {Q : α → sProp 𝕄} :
    iprop(records m K ∗ owing c (owe c (j :: js)) ∗ done m c s ∗ slack p d
        ∗ dutyTok EG (dcell (peer s c) s) 0 false ∗ dutyTok EG (dcell (peer d c) d) 0 false)
      ⊢ iprop(((cred (tallyAt (dcell c s) () (amt s)) ∗ owing c (owe c js))
            -∗ wp frame (wpE (defs₀ (F := F)) noVar (c : Thread nD τ) none) Set.univ (k ⟨⟩) Q)
          -∗ wp frame (wpE (defs₀ (F := F)) noVar (c : Thread nD τ) none) Set.univ
              (.op (.enqueueDma (cutOut off size inb) (.remote (Dev.tc n : Thread nD τ) (cutOut off size inb) (.dma sS) hsc) (.dma sR) hsrc hdst hsem) k) Q) := by
  subst hn hs hd hp hS hR
  rw [hc]
  have hset : (cutOut off size inb).view.set = piece c (src j) := cutOut_set c j hoff hsize hw
  unfold owing slack done
  iintro ⟨#HR, ⟨%W, Ho⟩, Hsrc, ⟨%fd, Hdst⟩, HtS, HtD⟩ Hk
  ihave HrS := (record_dma m K c (src j)) $$ HR
  icases HrS with ⟨#HiS, #HrS⟩
  ihave HrD := (record_dma m K (peer (dst j) c) (dst j)) $$ HR
  icases HrD with ⟨#HiD, #HrD⟩
  rw [piece_send, ← hset]
  iapply (send_rule m K c j js hset fd W hN) $$ [Ho Hsrc Hdst HtS HtD]
  · isplitr; · iexact HiS
    isplitr; · iexact HiD
    isplitl [Hsrc]; · iexact Hsrc
    isplitl [Hdst]; · iexact Hdst
    isplitl [Ho]; · iexact Ho
    isplitl [HtS]; · iexact HtS
    isplitr; · iexact HrS
    isplitl [HtD]; · iexact HtD
    iexact HrD
  iintro ⟨Hc, Ho⟩
  iapply Hk
  isplitl [Hc]; · iexact Hc
  iexists W; iexact Ho

end Send

/-- The wait on transfer semaphore `i`: its range is here, finished, and the semaphore is back at zero for good. -/
theorem step_wait (i : Fin 12) (js : List (Fin 6)) {s : DmaSem sig} (hs : s = dq i) {sh : Shape} {a b : Memref sig .tc .vmem sh .bf16}
    (hb : b.view.dmaCredit = amt i) (hjs : ∀ j ∈ js, tier (dq i) < tier (dq (dst j))) {ha' : a.view.WordExact} {hb' : b.view.WordExact}
    {α : Type} {k : PUnit → Prog (TpuEff nD τ sig (Elt F) Λ₀ .tc) α} {Q : α → sProp 𝕄} :
    iprop(records m K ∗ owing c (owe c js) ∗ levAts L lv ∗ cred (tallyAt (dcell c i) () (amt i)) ∗ atPos EG (dcell c i) 0 ∅ 0)
      ⊢ iprop(((owing c (owe c js) ∗ semVal (dcell c i) 0 ∗ done m c i)
            -∗ wp frame (wpE (defs₀ (F := F)) noVar (c : Thread nD τ) none) Set.univ (k ⟨⟩) Q)
          -∗ wp frame (wpE (defs₀ (F := F)) noVar (c : Thread nD τ) none) Set.univ (.op (.waitDma2 s a b ha' hb') k) Q) := by
  subst hs
  unfold owing
  iintro ⟨#HR, ⟨%W, Ho⟩, #Hlev, Hc, Hat⟩ Hk
  ihave Hr := (record_dma m K c i) $$ HR
  icases Hr with ⟨#Hi, -⟩
  rw [← hb]
  iapply (Rounds.wp_wait_rest_token noVar EG (plan m) (c : Thread nD τ) none (κ := K (c, some i))
      (wpE_waitDma2_eq noVar (c : Thread nD τ) none Set.univ) (Set.mem_univ _) () (O := owe c js) (W := W) (R := 0) (m := 0) (T := ∅)
      (by rw [Nat.zero_add, expect_dma, hb])) $$ [Hc Ho Hat]
  · isplitr; · iexact Hi
    isplitl [Hc]; · iexact Hc
    isplitl [Ho]; · iexact Ho
    isplitr; · iapply (mayWait_owe c (.dma (dq i)) js hjs); iexact Hlev
    iexact Hat
  iintro ⟨Ho, Hat, -, Hp⟩
  ihave Hp := (Entails.of_eq (all_dma m c i)) $$ Hp
  imod (Rounds.cell_close EG (plan m) (Set.mem_univ (K (c, some i))) (fun h => h) (R := 0 + 1) (dues_later m (dcell c i))) $$ [Hat] with Hz
  · isplitr; · iexact Hi
    iexact Hat
  iapply Hk
  isplitl [Ho]; · iexists _; iexact Ho
  isplitl [Hz] <;> iassumption

end Cert.Gather

end
-- ==== Proof.Buffer.lean ====
/-
The result buffer as a whole: how it is cut into what a device fills and what it lends, how the own half is cut into
what is sent, and what the kernel's copy of its operand into the own half leaves there.
-/
module

public import proofs.«01_k».proof.Proof.Steps
public import proofs.«01_k».proof.Proof.Gen.KernelIdeal.Skeleton
public import Idealize.ShloMosaic.Lib.Pipeline.Value
public import Idealize.ShloMosaic.Lib.Pipeline.ValueKit.Geometry

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UG ℕ

variable (m : (ℓ : Loc nD τ sig) → Buf (Elt F) ℓ) (c : Dev nD)

/-! ## Cutting -/

/-- The whole buffer is its seven parts. -/
theorem whole_cut (f : (cc0_stg1_0 : Ref sig .tc).ty.Contents (Elt F)) :
    (rng c Finset.univ f : sProp 𝕄) = iprop(rng c (ownHalf c) f ∗ rng c (piece c 4) f ∗ rng c (piece c 5) f ∗ rng c (piece c 6) f
      ∗ rng c (piece c 7) f ∗ rng c (piece c 10) f ∗ rng c (piece c 11) f) := by
  rw [← parts_cover c]
  unfold rng
  rw [pointsTo_biUnion _ _ (parts_apart c), bigSep_univ_eq_bigSepL [0, 1, 2, 3, 4, 5, 6] (by decide) (by decide)]
  rfl

/-- The own half is the four ranges sent across `x` and the quarter not sent. -/
theorem half_cut (f : (cc0_stg1_0 : Ref sig .tc).ty.Contents (Elt F)) :
    (rng c (ownHalf c) f : sProp 𝕄) = iprop(rng c (piece c 0) f ∗ rng c (piece c 1) f ∗ rng c (piece c 2) f ∗ rng c (piece c 3) f
      ∗ rng c (unsent c) f) := by
  rw [← halfParts_cover c]
  unfold rng
  rw [pointsTo_biUnion _ _ (halfParts_apart c), bigSep_univ_eq_bigSepL [0, 1, 2, 3, 4] (by decide) (by decide)]
  rfl

/-- The same, once the own half is finished. -/
theorem half_done :
    (rng c (ownHalf c) (full m c) : sProp 𝕄) = iprop(done m c 0 ∗ done m c 1 ∗ done m c 2 ∗ done m c 3 ∗ rng c (unsent c) (full m c)) :=
  half_cut c _

/-- At the start: the own half is kept, the six other ranges are there to be lent. -/
theorem whole_open (f : (cc0_stg1_0 : Ref sig .tc).ty.Contents (Elt F)) :
    (rng c Finset.univ f : sProp 𝕄) ⊢ iprop(rng c (ownHalf c) f ∗ lend (xn c) false ∗ lend (yn c) true) := by
  rw [whole_cut]
  unfold lend slack
  rw [xn_xn, yn_yn]
  iintro ⟨H, H4, H5, H6, H7, H10, H11⟩
  isplitl [H]; · iexact H
  isplitl [H4 H5 H6 H7]
  · isplitl [H4]; · iexists f; iexact H4
    isplitl [H5]; · iexists f; iexact H5
    isplitl [H6]; · iexists f; iexact H6
    iexists f; iexact H7
  isplitl [H10]; · iexists f; iexact H10
  iexists f; iexact H11

/-- At the end: every range is finished, so the buffer is. -/
theorem whole_close :
    iprop((done m c 0 ∗ done m c 1 ∗ done m c 2 ∗ done m c 3 ∗ rng c (unsent c) (full m c))
      ∗ done m c 4 ∗ done m c 5 ∗ done m c 6 ∗ done m c 7 ∗ done m c 10 ∗ done m c 11) ⊢ (rng c Finset.univ (full m c) : sProp 𝕄) := by
  rw [whole_cut, half_cut]
  exact BI.Entails.refl _

/-! ## The own block -/

/-- The rectangle of the own half, as the kernel computes it. -/
abbrev ownRect : Rect S1024x512 := Rect.unit (s := S1024x512) (k0_off1 c) S512x512.size (k0_off1_inb c)

theorem own_set : (oM.access (ownRect c)).set = ownHalf c := by
  unfold ownHalf
  exact slice_rows (k0_off1_inb c) (k0_off1_eq c) rfl

theorem zero_off : (![0, 0] : Fin 2 → ℕ) = fun _ => 0 := funext fun a => by fin_cases a <;> rfl

/-- The operand is read whole. -/
theorem read_operand (f : (cc0_stg0_0 : Ref sig .tc).ty.Contents (Elt F)) :
    iM.view.readAt (Elt F) (Rect.unit (s := S512x512) ![0, 0] S512x512.size inb_S512x512_S512x512_0_0).toLoadRect f = f :=
  Memref.readAt_unit_zero (Elt F) cc0_stg0_0 zero_off _ f

/-- What is stored is what was read. -/
theorem stored_is_read (x : Vec F S512x512 .bf16) : k0_pay1 x = x := shapeCast_self _ _

theorem inBlock_eq {i : S1024x512.Idx} {y : S512x512.Idx} (h0 : (i 0).val % 512 = (y 0).val) (h1 : (i 1).val = (y 1).val) : inBlock i = y := by
  funext a
  refine Fin.ext ?_
  show (if a = 0 then (i 0).val % 512 else (i 1).val) = (y a).val
  fin_cases a
  · exact h0
  · exact h1

/-- Where an element of the own block lies in the result. -/
theorem own_place (y : S512x512.Idx) : inBlock (((oM.access (ownRect c)).emb y : S1024x512.Idx)) = y := by
  have h0 : (((oM.access (ownRect c)).emb y : S1024x512.Idx) 0 : ℕ) = k0_off1 c 0 + (y 0).val :=
    ValueKit.view_emb_slice_whole_unit_val cc0_stg1_0 (k0_off1 c) S512x512.size (k0_off1_inb c) y 0
  have h1 : (((oM.access (ownRect c)).emb y : S1024x512.Idx) 1 : ℕ) = k0_off1 c 1 + (y 1).val :=
    ValueKit.view_emb_slice_whole_unit_val cc0_stg1_0 (k0_off1 c) S512x512.size (k0_off1_inb c) y 1
  rw [k0_off1_eq] at h0 h1
  have hy : (y 0).val < 512 := (y 0).isLt
  refine inBlock_eq ?_ (h1.trans (Nat.zero_add _))
  rw [h0]
  show (512 * (c.val / 2) + (y 0).val) % 512 = (y 0).val
  omega

/-- The kernel's store leaves the own half finished. -/
theorem own_stored (f : (cc0_stg1_0 : Ref sig .tc).ty.Contents (Elt F)) :
    (rng c (ownHalf c) ((oM.access (ownRect c)).write (Elt F) f (k0_pay1 (xblk m c)) Finset.univ) : sProp 𝕄) = rng c (ownHalf c) (full m c) := by
  unfold rng
  refine pointsTo_congr fun i hi => ?_
  have ho := origin_own hi
  rw [← own_set c] at hi
  obtain ⟨y, -, rfl⟩ := Finset.mem_map.mp hi
  rw [View.write_emb_of_mem _ _ (Finset.mem_univ y), stored_is_read]
  refine Eq.trans ?_ (congrArg₂ (xblk m) ho.symm (own_place c y).symm)
  rfl

end Cert.Gather

end
-- ==== Proof.Body.lean ====
/-
One device's run of the kernel, from what it is dealt at launch: it ends with its result buffer finished, nothing
owed, and each of its thirteen semaphores at zero.
-/
module

public import proofs.«01_k».proof.Proof.Buffer

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UG ℕ

/-! ## The kernel's offsets are the plan's -/

section Offsets
variable (c : Dev nD)

theorem off_x0 : k0_off2 c = ![lo c 0, 0] := (k0_off2_eq c).trans (by revert c; decide)
theorem off_x1 : k0_off3 c = ![lo c 1, 0] := (k0_off3_eq c).trans (by revert c; decide)
theorem off_x2 : k0_off4 c 128#32 = ![lo c 2, 0] := (k0_off4_eq c 0).trans (by revert c; decide)
theorem off_x3 : k0_off4 c 256#32 = ![lo c 3, 0] := (k0_off4_eq c 1).trans (by revert c; decide)
theorem off_y0 : k0_off5 c 0#32 = ![lo c 8, 0] := (k0_off5_eq c 0).trans (by revert c; decide)
theorem off_y1 : k0_off5 c 64#32 = ![lo c 9, 0] := (k0_off5_eq c 1).trans (by revert c; decide)

end Offsets

/-- The amounts of the signals and of the barrier wait. -/
theorem one_word : (1#32 : BitVec 32).toInt = 1 := by decide
theorem two_word : (2#32 : BitVec 32).toInt = 2 := by decide

variable (m : (ℓ : Loc nD τ sig) → Buf (Elt F) ℓ) (K : Dev nD × Option (Fin 12) → ℕ) (c : Dev nD)

/-- Something for each transfer semaphore. -/
abbrev each (P : Fin 12 → sProp 𝕄) : sProp 𝕄 :=
  iprop(P 0 ∗ P 1 ∗ P 2 ∗ P 3 ∗ P 4 ∗ P 5 ∗ P 6 ∗ P 7 ∗ P 8 ∗ P 9 ∗ P 10 ∗ P 11)

/-- Where device `c` stands at each of its semaphores. -/
def standing : sProp 𝕄 := iprop(atPos EG (bcell c) 0 ∅ 0 ∗ each fun k => atPos EG (dcell c k) 0 ∅ 0)
/-- The tokens of the raises device `c` makes: its two signals, and its transfers' at both ends. -/
def tokens : sProp 𝕄 :=
  iprop(dutyTok EG (bcell (xn c)) 0 false ∗ dutyTok EG (bcell (yn c)) 0 true ∗ each fun k => dutyTok EG (dcell (peer k c) k) 0 false)
/-- The credits of what the neighbours owe device `c`: two units at its barrier, and its landings. -/
def credits : sProp 𝕄 :=
  iprop(cred (tallyAt (bcell c) () 2) ∗ cred (tallyAt (dcell c 4) () (amt 4)) ∗ cred (tallyAt (dcell c 5) () (amt 5)) ∗ cred (tallyAt (dcell c 6) () (amt 6))
    ∗ cred (tallyAt (dcell c 7) () (amt 7)) ∗ cred (tallyAt (dcell c 10) () (amt 10)) ∗ cred (tallyAt (dcell c 11) () (amt 11)))

/-- All device `c` starts with besides its buffers. -/
def ready : sProp 𝕄 := iprop(records m K ∗ standing c ∗ tokens c ∗ credits c ∗ levAts L lv)
/-- Each of device `c`'s semaphores is at zero. -/
def drained : sProp 𝕄 := iprop(semVal (bcell c) 0 ∗ each fun k => semVal (dcell c k) 0)

/-- The kernel's two buffers on device `c`. -/
def operand (f : (cc0_stg0_0 : Ref sig .tc).ty.Contents (Elt F)) : sProp 𝕄 := ((c : Thread nD τ).loc cc0_stg0_0) ↦{fullShare} f
def result (f : (cc0_stg1_0 : Ref sig .tc).ty.Contents (Elt F)) : sProp 𝕄 := ((c : Thread nD τ).loc cc0_stg1_0) ↦{fullShare} f

theorem result_rng (f : (cc0_stg1_0 : Ref sig .tc).ty.Contents (Elt F)) : (result c f : sProp 𝕄) = rng c Finset.univ f := rfl

/-- What lands first across `x` is what goes on across `y`. -/
theorem done_on : done m c 4 = done m c 8 ∧ done m c 5 = done m c 9 := ⟨rfl, rfl⟩

/-- The kernel's copy of its operand into the own half: the half is finished. -/
theorem step_own (f : (cc0_stg1_0 : Ref sig .tc).ty.Contents (Elt F)) {α : Type} {k : PUnit → Prog (TpuEff nD τ sig (Elt F) Λ₀ .tc) α} {Q : α → sProp 𝕄}
    {hl : oM.view.LoadsAt (ownRect c).toLoadRect} {hx : (oM.access (ownRect c)).Stores Finset.univ} {hm} :
    (rng c (ownHalf c) f : sProp 𝕄)
      ⊢ iprop((rng c (ownHalf c) (full m c) -∗ wp frame (wpE (defs₀ (F := F)) noVar (c : Thread nD τ) none) Set.univ (k ⟨⟩) Q)
        -∗ wp frame (wpE (defs₀ (F := F)) noVar (c : Thread nD τ) none) Set.univ
            (.op (.load oM (ownRect c).toLoadRect hl) fun _ => .op (.store oM (ownRect c) (k0_pay1 (xblk m c)) Finset.univ hx hm) k) Q) := by
  rw [← own_stored m c f]
  unfold rng
  iintro H Hk
  iapply (wp_load_rect noVar (c : Thread nD τ) none Set.univ (m := oM) (r := ownRect c) (own_set c).subset) $$ H; iintro H
  iapply (wp_store noVar (c : Thread nD τ) none Set.univ (m := oM) (r := ownRect c) (Mk := Finset.univ) (own_set c).subset) $$ H; iintro H
  iapply Hk; iexact H

set_option maxHeartbeats 2000000 in
theorem run_body (f : (cc0_stg1_0 : Ref sig .tc).ty.Contents (Elt F)) (Q : PUnit → sProp 𝕄) :
    iprop(ready m K c ∗ owing c (owe₀ c) ∗ operand c (xblk m c) ∗ result c f)
      ⊢ iprop(((drained c ∗ owing c 0 ∗ operand c (xblk m c) ∗ result c (full m c)) -∗ Q ⟨⟩)
        -∗ wp frame (wpE (defs₀ (F := F)) noVar (c : Thread nD τ) none) Set.univ
            (cc0_body (Memref.whole cc0_stg0_0) (Memref.isWhole_whole _) (Memref.whole cc0_stg1_0) (Memref.isWhole_whole _)
              cc0_scratch0 cc0_scratch1 cc0_scratch2 cc0_scratch3) Q) := by
  simp only [cc0_body_eq_skeleton]
  unfold cc0_body_skel
  simp only [k0_part1_eq_skeleton, k0_part2_eq_skeleton, k0_part3_eq_skeleton, k0_part4_eq_skeleton, k0_part5_eq_skeleton,
    k0_part1_skel, k0_part2_skel, k0_part3_skel, k0_part4_skel, k0_part5_skel,
    semSignalWord, semWaitWord, one_word, two_word, Prog.lift, Prog.bind_op, Prog.bind_ret, Prog.pure_eq_ret, wp_deviceId]
  unfold ready standing tokens credits
  dsimp only [each]
  iintro ⟨⟨#HR, ⟨HaB, Ha0, Ha1, Ha2, Ha3, Ha4, Ha5, Ha6, Ha7, Ha8, Ha9, Ha10, Ha11⟩,
    ⟨HtX, HtY, Ht0, Ht1, Ht2, Ht3, Ht4, Ht5, Ht6, Ht7, Ht8, Ht9, Ht10, Ht11⟩, ⟨HcB, Hc4, Hc5, Hc6, Hc7, Hc10, Hc11⟩, #Hlev⟩, Ho, Hx, Hout⟩ Hk
  ihave Hp := ((Entails.of_eq (result_rng c f)).trans (whole_open c f)) $$ Hout
  icases Hp with ⟨Hown, HlX, HlY⟩
  -- meet the neighbours
  iapply (step_signal m K c (dev1_xn c) false (owe₁ c)) $$ [Ho HtX HlX]
  · isplitr; · iexact HR
    isplitl [Ho]; · iexact Ho
    isplitl [HtX] <;> iassumption
  iintro Ho
  iapply (step_signal m K c (dev2_yn c) true (owe c [0, 1, 2, 3, 4, 5])) $$ [Ho HtY HlY]
  · isplitr; · iexact HR
    isplitl [Ho]; · iexact Ho
    isplitl [HtY] <;> iassumption
  iintro Ho
  iapply (step_meet m K c [0, 1, 2, 3, 4, 5] (by decide)) $$ [Ho HcB HaB]
  · isplitr; · iexact HR
    isplitl [Ho]; · iexact Ho
    isplitr; · iexact Hlev
    isplitl [HcB] <;> iassumption
  iintro ⟨Ho, HzB, HlX, HlY⟩
  -- copy the operand
  unfold operand
  iapply (wp_load noVar (c : Thread nD τ) none Set.univ (m := iM) (Finset.subset_univ _)) $$ Hx; iintro Hx
  rw [read_operand]
  iapply (step_own m c f) $$ Hown; iintro Hown
  ihave Hp := (Entails.of_eq (half_done m c)) $$ Hown
  icases Hp with ⟨Hd0, Hd1, Hd2, Hd3, Hrest⟩
  unfold lend
  icases HlX with ⟨Hl4, Hl5, Hl6, Hl7⟩
  icases HlY with ⟨Hl10, Hl11⟩
  -- send the four ranges across `x`
  iapply (step_send m K c 0 [1, 2, 3, 4, 5] 0 4 rfl rfl (dev3_xn c) rfl rfl (sS := dq 0) (sR := dq 4) rfl rfl (off_x0 c) rfl rfl (credit64 0 rfl)) $$ [Ho Hd0 Hl4 Ht0 Ht4]
  · isplitr; · iexact HR
    isplitl [Ho]; · iexact Ho
    isplitl [Hd0]; · iexact Hd0
    isplitl [Hl4]; · iexact Hl4
    isplitl [Ht0] <;> iassumption
  iintro ⟨Hc0, Ho⟩
  iapply (step_send m K c 1 [2, 3, 4, 5] 1 5 rfl rfl (dev4_xn c) rfl rfl (sS := dq 1) (sR := dq 5) rfl rfl (off_x1 c) rfl rfl (credit64 1 rfl)) $$ [Ho Hd1 Hl5 Ht1 Ht5]
  · isplitr; · iexact HR
    isplitl [Ho]; · iexact Ho
    isplitl [Hd1]; · iexact Hd1
    isplitl [Hl5]; · iexact Hl5
    isplitl [Ht1] <;> iassumption
  iintro ⟨Hc1, Ho⟩
  iapply (step_send m K c 2 [3, 4, 5] 2 6 rfl rfl (dev5_xn c) rfl rfl (sS := dq 2) (sR := dq 6) rfl rfl (off_x2 c) rfl rfl (credit128 2 rfl)) $$ [Ho Hd2 Hl6 Ht2 Ht6]
  · isplitr; · iexact HR
    isplitl [Ho]; · iexact Ho
    isplitl [Hd2]; · iexact Hd2
    isplitl [Hl6]; · iexact Hl6
    isplitl [Ht2] <;> iassumption
  iintro ⟨Hc2, Ho⟩
  iapply (step_send m K c 3 [4, 5] 3 7 rfl rfl (dev6_xn c) rfl rfl (sS := dq 3) (sR := dq 7) rfl rfl (off_x3 c) rfl rfl (credit128 3 rfl)) $$ [Ho Hd3 Hl7 Ht3 Ht7]
  · isplitr; · iexact HR
    isplitl [Ho]; · iexact Ho
    isplitl [Hd3]; · iexact Hd3
    isplitl [Hl7]; · iexact Hl7
    isplitl [Ht3] <;> iassumption
  iintro ⟨Hc3, Ho⟩
  -- what lands first goes on across `y`
  iapply (step_wait m K c 4 [4, 5] (s := dq 4) rfl (credit64 4 rfl) (by decide)) $$ [Ho Hc4 Ha4]
  · isplitr; · iexact HR
    isplitl [Ho]; · iexact Ho
    isplitr; · iexact Hlev
    isplitl [Hc4] <;> iassumption
  iintro ⟨Ho, Hz4, Hd4⟩
  ihave Hd8 := (Entails.of_eq (done_on m c).1) $$ Hd4
  iapply (step_send m K c 4 [5] 8 10 rfl rfl (dev7_yn c) rfl rfl (sS := dq 8) (sR := dq 10) rfl rfl (off_y0 c) rfl rfl (credit64 8 rfl)) $$ [Ho Hd8 Hl10 Ht8 Ht10]
  · isplitr; · iexact HR
    isplitl [Ho]; · iexact Ho
    isplitl [Hd8]; · iexact Hd8
    isplitl [Hl10]; · iexact Hl10
    isplitl [Ht8] <;> iassumption
  iintro ⟨Hc8, Ho⟩
  iapply (step_wait m K c 5 [5] (s := dq 5) rfl (credit64 5 rfl) (by decide)) $$ [Ho Hc5 Ha5]
  · isplitr; · iexact HR
    isplitl [Ho]; · iexact Ho
    isplitr; · iexact Hlev
    isplitl [Hc5] <;> iassumption
  iintro ⟨Ho, Hz5, Hd5⟩
  ihave Hd9 := (Entails.of_eq (done_on m c).2) $$ Hd5
  iapply (step_send m K c 5 [] 9 11 rfl rfl (dev8_yn c) rfl rfl (sS := dq 9) (sR := dq 11) rfl rfl (off_y1 c) rfl rfl (credit64 9 rfl)) $$ [Ho Hd9 Hl11 Ht9 Ht11]
  · isplitr; · iexact HR
    isplitl [Ho]; · iexact Ho
    isplitl [Hd9]; · iexact Hd9
    isplitl [Hl11]; · iexact Hl11
    isplitl [Ht9] <;> iassumption
  iintro ⟨Hc9, Ho⟩
  -- the other landings, then the reads
  iapply (step_wait m K c 6 [] (s := dq 6) rfl (credit128 6 rfl) (by decide)) $$ [Ho Hc6 Ha6]
  · isplitr; · iexact HR
    isplitl [Ho]; · iexact Ho
    isplitr; · iexact Hlev
    isplitl [Hc6] <;> iassumption
  iintro ⟨Ho, Hz6, Hd6⟩
  iapply (step_wait m K c 7 [] (s := dq 7) rfl (credit128 7 rfl) (by decide)) $$ [Ho Hc7 Ha7]
  · isplitr; · iexact HR
    isplitl [Ho]; · iexact Ho
    isplitr; · iexact Hlev
    isplitl [Hc7] <;> iassumption
  iintro ⟨Ho, Hz7, Hd7⟩
  iapply (step_wait m K c 10 [] (s := dq 10) rfl (credit64 10 rfl) (by decide)) $$ [Ho Hc10 Ha10]
  · isplitr; · iexact HR
    isplitl [Ho]; · iexact Ho
    isplitr; · iexact Hlev
    isplitl [Hc10] <;> iassumption
  iintro ⟨Ho, Hz10, Hd10⟩
  iapply (step_wait m K c 11 [] (s := dq 11) rfl (credit64 11 rfl) (by decide)) $$ [Ho Hc11 Ha11]
  · isplitr; · iexact HR
    isplitl [Ho]; · iexact Ho
    isplitr; · iexact Hlev
    isplitl [Hc11] <;> iassumption
  iintro ⟨Ho, Hz11, Hd11⟩
  iapply (step_wait m K c 0 [] (s := dq 0) rfl (credit64 0 rfl) (by decide)) $$ [Ho Hc0 Ha0]
  · isplitr; · iexact HR
    isplitl [Ho]; · iexact Ho
    isplitr; · iexact Hlev
    isplitl [Hc0] <;> iassumption
  iintro ⟨Ho, Hz0, Hd0⟩
  iapply (step_wait m K c 1 [] (s := dq 1) rfl (credit64 1 rfl) (by decide)) $$ [Ho Hc1 Ha1]
  · isplitr; · iexact HR
    isplitl [Ho]; · iexact Ho
    isplitr; · iexact Hlev
    isplitl [Hc1] <;> iassumption
  iintro ⟨Ho, Hz1, Hd1⟩
  iapply (step_wait m K c 2 [] (s := dq 2) rfl (credit128 2 rfl) (by decide)) $$ [Ho Hc2 Ha2]
  · isplitr; · iexact HR
    isplitl [Ho]; · iexact Ho
    isplitr; · iexact Hlev
    isplitl [Hc2] <;> iassumption
  iintro ⟨Ho, Hz2, Hd2⟩
  iapply (step_wait m K c 3 [] (s := dq 3) rfl (credit128 3 rfl) (by decide)) $$ [Ho Hc3 Ha3]
  · isplitr; · iexact HR
    isplitl [Ho]; · iexact Ho
    isplitr; · iexact Hlev
    isplitl [Hc3] <;> iassumption
  iintro ⟨Ho, Hz3, Hd3⟩
  iapply (step_wait m K c 8 [] (s := dq 8) rfl (credit64 8 rfl) (by decide)) $$ [Ho Hc8 Ha8]
  · isplitr; · iexact HR
    isplitl [Ho]; · iexact Ho
    isplitr; · iexact Hlev
    isplitl [Hc8] <;> iassumption
  iintro ⟨Ho, Hz8, Hd8⟩
  iapply (step_wait m K c 9 [] (s := dq 9) rfl (credit64 9 rfl) (by decide)) $$ [Ho Hc9 Ha9]
  · isplitr; · iexact HR
    isplitl [Ho]; · iexact Ho
    isplitr; · iexact Hlev
    isplitl [Hc9] <;> iassumption
  iintro ⟨Ho, Hz9, Hd9⟩
  rw [wp_ret]; imodintro
  iapply Hk
  unfold drained
  isplitl [HzB Hz0 Hz1 Hz2 Hz3 Hz4 Hz5 Hz6 Hz7 Hz8 Hz9 Hz10 Hz11]
  · isplitl [HzB]; · iexact HzB
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    iexact Hz11
  isplitl [Ho]; · iexact Ho
  isplitl [Hx]; · iexact Hx
  iapply ((whole_close m c).trans (Entails.of_eq (result_rng c _).symm))
  isplitl [Hd0 Hd1 Hd2 Hd3 Hrest]
  · isplitl [Hd0]; · iexact Hd0
    isplitl [Hd1]; · iexact Hd1
    isplitl [Hd2]; · iexact Hd2
    isplitl [Hd3] <;> iassumption
  isplitl [Hd8]; · iexact Hd8
  isplitl [Hd9]; · iexact Hd9
  isplitl [Hd6]; · iexact Hd6
  isplitl [Hd7]; · iexact Hd7
  isplitl [Hd10] <;> iassumption

end Cert.Gather

end
-- ==== Proof.Setup.lean ====
/-
The set-up of the launch: opening an account for every semaphore, dealing each device the tokens of the raises it
makes, and turning what the devices owe at launch into the credits each waits with.
-/
module

public import proofs.«01_k».proof.Proof.Body
public import proofs.«01_k».proof.Proof.Gen.KernelIdeal.Launch

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UG ℕ

variable (m : (ℓ : Loc nD τ sig) → Buf (Elt F) ℓ)

/-! ## Cells and tokens -/

/-- The kernel's own semaphores: the transfer semaphores. -/
abbrev osem : Fin 12 → SemLoc sig := fun k => .dma (dq k)

theorem ownSemFacts : Pipeline.OwnSemFacts cfg0.spec osem := by decide

theorem semOf_injective : Function.Injective semOf := by
  intro a b h
  revert a b; decide

theorem cellAt_injective : Function.Injective (cellAt : Dev nD × Option (Fin 12) → GSem nD τ sig) := by
  rintro ⟨c, a⟩ ⟨c', b⟩ h
  exact Prod.ext (congrArg (fun g : GSem nD τ sig => g.1.1) h) (semOf_injective (congrArg Prod.snd h))

def allCells : Finset (GSem nD τ sig) := Finset.univ.map ⟨cellAt, cellAt_injective⟩

/-- The raises due at a device's own semaphores: two at its barrier, one at each transfer semaphore. -/
abbrev tokAt : Dev nD × (Bool ⊕ Fin 12) → GSem nD τ sig × ℕ × Bool
  | (c, .inl d) => (bcell c, 0, d)
  | (c, .inr k) => (dcell c k, 0, false)

theorem tokAt_injective : Function.Injective tokAt := by
  rintro ⟨c, a⟩ ⟨c', b⟩ h
  have hc : c = c' := by
    rcases a with a | a <;> rcases b with b | b <;> exact congrArg (fun x : GSem nD τ sig × ℕ × Bool => x.1.1.1) h
  subst hc
  rcases a with a | a <;> rcases b with b | b
  · have e : a = b := congrArg (fun x : GSem nD τ sig × ℕ × Bool => x.2.2) h
    rw [e]
  · exact absurd (congrArg (fun x : GSem nD τ sig × ℕ × Bool => x.1.2) h) (fun e => by cases e)
  · exact absurd (congrArg (fun x : GSem nD τ sig × ℕ × Bool => x.1.2) h) (fun e => by cases e)
  · have e : some a = some b := semOf_injective (congrArg (fun x : GSem nD τ sig × ℕ × Bool => x.1.2) h)
    cases e; rfl

def allToks : Finset (GSem nD τ sig × ℕ × Bool) := Finset.univ.map ⟨tokAt, tokAt_injective⟩

/-- The state the launch starts the accounts in. -/
def seed : UG := (initOf (Pipeline.cells cfgs cellOf_inj) (Pipeline.launchToks cfgs cellOf_inj), initOf allCells allToks)

/-- The tokens of device `c`'s own semaphores. -/
def ownToks (c : Dev nD) : sProp 𝕄 :=
  iprop((dutyTok EG (bcell c) 0 false ∗ dutyTok EG (bcell c) 0 true) ∗ bigSep Finset.univ fun k => dutyTok EG (dcell c k) 0 false)

/-- What each device is dealt, still by semaphore. -/
def dealt (c : Dev nD) : sProp 𝕄 :=
  iprop((bigSep Finset.univ fun k => roundState EG (plan m) (cellAt (c, k)) 0)
    ∗ (bigSep Finset.univ fun k => atPos EG (cellAt (c, k)) 0 ∅ 0) ∗ (bigSep Finset.univ fun k => reached EG (cellAt (c, k)) 0) ∗ ownToks c)

theorem by_device (Φ : GSem nD τ sig → sProp 𝕄) :
    bigSep allCells Φ = bigSep Finset.univ fun c : Dev nD => bigSep Finset.univ fun k => Φ (cellAt (c, k)) := by
  unfold allCells; rw [bigSep_map, bigSep_univ_prod]; rfl

theorem toks_by_device :
    bigSep allToks (fun x => (dutyTok EG x.1 x.2.1 x.2.2 : sProp 𝕄)) = bigSep Finset.univ fun c : Dev nD => ownToks c := by
  unfold allToks ownToks
  rw [bigSep_map, bigSep_univ_prod]
  refine bigSep_congr fun c _ => ?_
  rw [bigSep_univ_sum, bigSep_univ_eq_bigSepL (I := Bool) [false, true] (by decide) (by decide)]
  rfl

theorem deal : BI.own (EG (initOf allCells allToks)) ⊢ (|==> bigSep Finset.univ (dealt m) : sProp 𝕄) := by
  iintro H
  imod (Rounds.fund EG (plan m) allCells allToks) $$ H with ⟨Hs, Hr, Ha, Ht⟩
  imodintro
  ihave Hs := (Entails.of_eq (by_device fun g => roundState EG (plan m) g 0)) $$ Hs
  ihave Ha := (Entails.of_eq (by_device fun g => atPos EG g 0 ∅ 0)) $$ Ha
  ihave Hr := (Entails.of_eq (by_device fun g => reached EG g 0)) $$ Hr
  ihave Ht := (Entails.of_eq toks_by_device) $$ Ht
  unfold dealt; simp only [bigSep_sep']
  isplitl [Hs]; · iexact Hs
  isplitl [Ha]; · iexact Ha
  isplitl [Hr] <;> iassumption

/-! ## Semaphores at zero -/

theorem each_eq (P : Fin 12 → sProp 𝕄) : bigSep Finset.univ P = each P :=
  bigSep_univ_eq_bigSepL [0, 1, 2, 3, 4, 5, 6, 7, 8, 9, 10, 11] (by decide) (by decide) P
theorem with_bar (P : Option (Fin 12) → sProp 𝕄) : bigSep Finset.univ P = iprop(P none ∗ each fun k => P (some k)) :=
  bigSep_univ_eq_bigSepL [none, some 0, some 1, some 2, some 3, some 4, some 5, some 6, some 7, some 8, some 9, some 10, some 11] (by decide) (by decide) P

theorem own_zero (c : Dev nD) :
    (Pipeline.ownSems0 (Ix := Unit) (Name := ℕ) (U := UG) (Lvl := ℕ) (Val := Elt F) (τ := τ) osem c : sProp 𝕄) = each fun k => semVal (dcell c k) 0 := by
  unfold Pipeline.ownSems0
  exact each_eq _
theorem bar_zero (c : Dev nD) : (unscopedSems0 c : sProp 𝕄) = semVal (bcell c) 0 := by
  unfold unscopedSems0; rw [bigSep_eq_bigSepL_of_eq [SemLoc.reg barS] (by decide) (by decide)]; rfl

/-- A device's semaphores at zero, with what it is dealt, open its accounts. -/
theorem open_accounts (c : Dev nD) :
    iprop(Pipeline.ownSems0 (Ix := Unit) (Name := ℕ) (U := UG) (Lvl := ℕ) (Val := Elt F) (τ := τ) osem c ∗ unscopedSems0 c ∗ dealt m c)
      ⊢ |={Set.univ}=> iprop((bigSep Finset.univ fun k => iprop(∃ κ : ℕ, cellInv EG (plan m) κ (cellAt (c, k))))
          ∗ (bigSep Finset.univ fun k => atPos EG (cellAt (c, k)) 0 ∅ 0) ∗ (bigSep Finset.univ fun k => reached EG (cellAt (c, k)) 0) ∗ ownToks c) := by
  have hopen : iprop((bigSep Finset.univ fun k : Option (Fin 12) => semVal (cellAt (c, k)) 0) ∗ bigSep Finset.univ fun k : Option (Fin 12) => roundState EG (plan m) (cellAt (c, k)) 0)
      ⊢ (|={Set.univ}=> bigSep Finset.univ fun k => iprop(∃ κ : ℕ, cellInv EG (plan m) κ (cellAt (c, k))) : sProp 𝕄) := by
    rw [← bigSep_sep']
    exact (bigSep_mono fun k _ => (Rounds.body_intro EG (plan m) (cellAt (c, k))).trans inv_alloc).trans (bigSep_fupd _ _)
  rw [own_zero, bar_zero]
  unfold dealt
  iintro ⟨Hd, Hb, Hs, Hrest⟩
  imod hopen $$ [Hd Hb Hs] with Hi
  · isplitl [Hd Hb]
    · iapply (Entails.of_eq (with_bar fun k => semVal (cellAt (c, k)) 0).symm)
      isplitl [Hb]; · iexact Hb
      iexact Hd
    iexact Hs
  imodintro
  isplitl [Hi] <;> iassumption

/-! ## Dealing -/

/-- Each token goes to the device that makes the raise: across `x`, across `y`, or nowhere. -/
theorem deal_toks : (bigSep Finset.univ fun c : Dev nD => (ownToks c : sProp 𝕄)) ⊢ bigSep Finset.univ fun c : Dev nD => tokens c := by
  have hd : (bigSep Finset.univ fun c : Dev nD => bigSep Finset.univ fun k => (dutyTok EG (dcell c k) 0 false : sProp 𝕄))
      = bigSep Finset.univ fun c : Dev nD => each fun k => dutyTok EG (dcell (peer k c) k) 0 false := by
    rw [bigSep_univ_comm, bigSep_congr fun k _ => bigSep_univ_equiv (peer k) fun c => (dutyTok EG (dcell c k) 0 false : sProp 𝕄), bigSep_univ_comm]
    exact bigSep_congr fun c _ => each_eq _
  have hown : (bigSep Finset.univ fun c : Dev nD => (ownToks c : sProp 𝕄))
      = iprop(((bigSep Finset.univ fun c : Dev nD => dutyTok EG (bcell c) 0 false) ∗ bigSep Finset.univ fun c : Dev nD => dutyTok EG (bcell c) 0 true)
        ∗ bigSep Finset.univ fun c : Dev nD => each fun k => dutyTok EG (dcell (peer k c) k) 0 false) := by
    unfold ownToks; rw [bigSep_sep', bigSep_sep', hd]
  have hpay : (bigSep Finset.univ fun c : Dev nD => (tokens c : sProp 𝕄))
      = iprop((bigSep Finset.univ fun c : Dev nD => dutyTok EG (bcell (xn c)) 0 false) ∗ (bigSep Finset.univ fun c : Dev nD => dutyTok EG (bcell (yn c)) 0 true)
        ∗ bigSep Finset.univ fun c : Dev nD => each fun k => dutyTok EG (dcell (peer k c) k) 0 false) := by
    unfold tokens; rw [bigSep_sep', bigSep_sep']
  rw [hown, hpay,
    bigSep_univ_equiv xflip (fun c => (dutyTok EG (bcell c) 0 false : sProp 𝕄)), bigSep_univ_equiv yflip (fun c => (dutyTok EG (bcell c) 0 true : sProp 𝕄))]
  iintro ⟨⟨H1, H2⟩, H3⟩
  isplitl [H1]; · iexact H1
  isplitl [H2]; · iexact H2
  iexact H3

/-- What device `c` goes into its run with, but for the credits. -/
def equipped (c : Dev nD) : sProp 𝕄 := iprop(∃ K, records m K ∗ standing c ∗ tokens c)

theorem equip (K : Dev nD × Option (Fin 12) → ℕ) (c : Dev nD) : iprop(records m K ∗ standing c ∗ tokens c) ⊢ equipped m c := by
  unfold equipped
  iintro H
  iexists K; iexact H

theorem deal_out :
    (bigSep Finset.univ fun c : Dev nD => iprop((bigSep Finset.univ fun k => iprop(∃ κ : ℕ, cellInv EG (plan m) κ (cellAt (c, k))))
          ∗ (bigSep Finset.univ fun k => atPos EG (cellAt (c, k)) 0 ∅ 0) ∗ (bigSep Finset.univ fun k => reached EG (cellAt (c, k)) 0) ∗ ownToks c) : sProp 𝕄)
      ⊢ bigSep Finset.univ (equipped m) := by
  rw [bigSep_sep', bigSep_sep', bigSep_sep', ← bigSep_univ_prod (fun ck : Dev nD × Option (Fin 12) => iprop(∃ κ : ℕ, cellInv EG (plan m) κ (cellAt ck))),
    ← bigSep_univ_prod (fun ck : Dev nD × Option (Fin 12) => (reached EG (cellAt ck) 0 : sProp 𝕄))]
  iintro ⟨HI, Ha, #HR, Ht⟩
  ihave HK := (BI.bigSep_exists_pi Finset.univ (fun (ck : Dev nD × Option (Fin 12)) (κ : ℕ) => (cellInv EG (plan m) κ (cellAt ck) : sProp 𝕄))) $$ HI
  icases HK with ⟨%K, #HI⟩
  ihave Ht := (deal_toks (F := F)) $$ Ht
  have each_device : iprop(records m K ∗ bigSep Finset.univ fun c : Dev nD => iprop(standing c ∗ tokens c)) ⊢ bigSep Finset.univ (equipped m) := by
    refine (sep_mono_left (BI.bigSep_of_persistent (Finset.univ : Finset (Dev nD)) (records m K))).trans ?_
    rw [← bigSep_sep']
    exact bigSep_mono fun c _ => equip m K c
  iapply each_device
  isplitr
  · unfold records
    isplitl; · iexact HI
    iexact HR
  rw [bigSep_sep']
  isplitl [Ha]
  · iapply (Entails.of_eq (bigSep_congr fun (c : Dev nD) _ => with_bar fun k => (atPos EG (cellAt (c, k)) 0 ∅ 0 : sProp 𝕄)))
    iexact Ha
  iexact Ht

/-- All devices' semaphores at once. -/
theorem set_up :
    (bigSep Finset.univ fun c => iprop(Pipeline.ownSems0 (Ix := Unit) (Name := ℕ) (U := UG) (Lvl := ℕ) (Val := Elt F) (τ := τ) osem c ∗ unscopedSems0 c ∗ dealt m c) : sProp 𝕄)
      ⊢ |={Set.univ}=> bigSep Finset.univ (equipped m) :=
  ((bigSep_mono fun c _ => open_accounts m c).trans (bigSep_fupd _ _)).trans (BI.fupd_mono (deal_out m))

/-! ## Credits -/

theorem credit_landing (c : Dev nD) (j : Fin 6) :
    (Pipeline.launchCred (fun d => tallyAt (landing d j) () (amt (dst j))) c : sProp 𝕄) ⊢ cred (tallyAt (dcell c (dst j)) () (amt (dst j))) :=
  Pipeline.launchCred_tallyAt (.dma (dq (dst j))) (peer (dst j)) (peer (dst j)) (peer_peer _) (peer_peer _) () _ c
theorem credit_x (c : Dev nD) : (Pipeline.launchCred (fun d => tallyAt (bcell (xn d)) () 1) c : sProp 𝕄) ⊢ cred (tallyAt (bcell c) () 1) :=
  Pipeline.launchCred_tallyAt (.reg barS) xn xn xn_xn xn_xn () 1 c
theorem credit_y (c : Dev nD) : (Pipeline.launchCred (fun d => tallyAt (bcell (yn d)) () 1) c : sProp 𝕄) ⊢ cred (tallyAt (bcell c) () 1) :=
  Pipeline.launchCred_tallyAt (.reg barS) yn yn yn_yn yn_yn () 1 c

/-- What the devices owe at launch is what each waits with. -/
theorem launch_credits (c : Dev nD) : (Pipeline.launchCred owe₀ c : sProp 𝕄) ⊢ credits c := by
  show Pipeline.launchCred (fun d => (((((((fun _ : Dev nD => (0 : CellTallies nD τ sig Unit)) d + tallyAt (landing d 5) () (amt (dst 5))) + tallyAt (landing d 4) () (amt (dst 4)))
    + tallyAt (landing d 3) () (amt (dst 3))) + tallyAt (landing d 2) () (amt (dst 2))) + tallyAt (landing d 1) () (amt (dst 1)))
    + tallyAt (landing d 0) () (amt (dst 0))) + tallyAt (bcell (yn d)) () 1 + tallyAt (bcell (xn d)) () 1) c ⊢ _
  rw [Pipeline.launchCred_add, Pipeline.launchCred_add, Pipeline.launchCred_add, Pipeline.launchCred_add, Pipeline.launchCred_add, Pipeline.launchCred_add,
    Pipeline.launchCred_add, Pipeline.launchCred_add]
  iintro ⟨⟨⟨⟨⟨⟨⟨⟨-, H5⟩, H4⟩, H3⟩, H2⟩, H1⟩, H0⟩, HY⟩, HX⟩
  ihave HX := (credit_x (F := F) c) $$ HX
  ihave HY := (credit_y (F := F) c) $$ HY
  unfold credits
  isplitl [HX HY]
  · rw [show (tallyAt (bcell c) () 2 : CellTallies nD τ sig Unit) = tallyAt (bcell c) () 1 + tallyAt (bcell c) () 1 from (tallyAt_add (bcell c) () 1 1).symm]
    iapply (cred_add _ _).2
    isplitl [HX] <;> iassumption
  isplitl [H0]; · iapply (credit_landing (F := F) c 0); iexact H0
  isplitl [H1]; · iapply (credit_landing (F := F) c 1); iexact H1
  isplitl [H2]; · iapply (credit_landing (F := F) c 2); iexact H2
  isplitl [H3]; · iapply (credit_landing (F := F) c 3); iexact H3
  isplitl [H4]; · iapply (credit_landing (F := F) c 4); iexact H4
  iapply (credit_landing (F := F) c 5); iexact H5

end Cert.Gather

end
-- ==== Proof.Run.lean ====
/-
The run of the program: the kernel on all four devices at once, from any memory with its semaphores at zero. It ends,
and every end has the arrays the kernel's data say and every semaphore at zero.
-/
module

public import proofs.«01_k».proof.Proof.Setup
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UG ℕ

variable (m : (ℓ : Loc nD τ sig) → Buf (Elt F) ℓ) (ρ : Dev nD → PrngReg)

/-! ## The kernel's data -/

/-- The kernel on device `c`: its two arrays, what its buffers hold at the end, and what it holds and owes before and
    after. -/
def data (_ : Fin 1) (c : Dev nD) : Dat τ (Elt F) Unit ℕ UG ℕ cfg0 c where
  A w := m ((cfg0.win w).arr.view.loc (c : Thread nD τ))
  after w _ := match w with
    | ⟨0, _⟩ => xblk m c
    | ⟨1, _⟩ => full m c
  Φ t := match t with
    | ⟨0, _⟩ => iprop(∃ K, ready m K c)
    | ⟨_ + 1, _⟩ => drained c
  q _ := fullShare
  owed t := match t with
    | ⟨0, _⟩ => owe₀ c
    | ⟨_ + 1, _⟩ => 0

theorem share_full (c : Dev nD) (w : Fin cfg0.W) : (data m 0 c).share w = fullShare := by unfold Dat.share; split <;> rfl

/-! ## The body, as the launch asks for it -/

/-- A staging buffer of device `c`, holding `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_holds (c : Dev nD) (b : Ref sig .tc) (X : b.ty.Contents (Elt F)) :
    (owns (Ix := Unit) (Name := ℕ) (U := UG) (Lvl := ℕ) (c : Thread nD τ) (Memref.whole b) fullShare X : sProp 𝕄) = holds c b X := by
  unfold owns; simp only [Memref.view_whole, View.read_whole, View.set_whole]

theorem one_point (t : Fin cfg0.N) : t = t0_0 := fin_N0 t

def entry (c : Dev nD) : sProp 𝕄 :=
  iprop((∃ K, ready m K c) ∗ (data m 0 c).owesAt () t0_0.castSucc
    ∗ (∃ d, holds c cc0_stg0_0 ((data m 0 c).before (0 : Fin 2) t0_0 d)) ∗ (∃ d, holds c cc0_stg1_0 ((data m 0 c).before (1 : Fin 2) t0_0 d)))
def exit (c : Dev nD) : sProp 𝕄 :=
  iprop(drained c ∗ (data m 0 c).owesAt () t0_0.succ ∗ holds c cc0_stg0_0 (xblk m c) ∗ holds c cc0_stg1_0 (full m c))

theorem fetch_operand : (cfg0.win (0 : Fin 2)).fetch t0_0 = true := rfl

theorem before_operand (c : Dev nD) (d) : (data m 0 c).before (0 : Fin 2) t0_0 d = xblk m c := by
  unfold Dat.before
  rw [if_pos fetch_operand]
  rfl

theorem body_entry (c : Dev nD) :
    entry m c ⊢ wp frame (wpE (defs₀ (F := F)) noVar (c : Thread nD τ) none) Set.univ
      (cc0_body (Memref.whole cc0_stg0_0) (Memref.isWhole_whole _) (Memref.whole cc0_stg1_0) (Memref.isWhole_whole _)
        cc0_scratch0 cc0_scratch1 cc0_scratch2 cc0_scratch3) (fun _ => exit m c) := by
  unfold entry holds
  iintro ⟨⟨%K, Hr⟩, Ho, ⟨%d0, %g0, %h0, Hx⟩, ⟨%d1, %g1, -, Hout⟩⟩
  have hx : g0 = xblk m c := h0.trans (before_operand m c d0)
  subst hx
  iapply (run_body m K c g1 fun _ => exit m c) $$ [Hr Ho Hx Hout]
  · isplitl [Hr]; · iexact Hr
    isplitl [Ho]
    · unfold Dat.owesAt Pipeline.owesWithin owing
      icases Ho with ⟨%W, -, Ho⟩
      iexists W; iexact Ho
    unfold operand result
    isplitl [Hx]; · iexact Hx
    iexact Hout
  iintro ⟨Hd, Ho, Hx, Hout⟩
  unfold exit operand result holds
  isplitl [Hd]; · iexact Hd
  isplitl [Ho]
  · unfold Dat.owesAt Pipeline.owesWithin owing
    icases Ho with ⟨%W, Ho⟩
    iexists W
    isplitr; · ipureintro; exact fun _ _ => Or.inl trivial
    iexact Ho
  isplitl [Hx]
  · iexists (xblk m c); isplitr; · (ipureintro; rfl)
    iexact Hx
  iexists (full m c); isplitr; · (ipureintro; rfl)
  iexact Hout

set_option maxRecDepth 4000 in
theorem body_ok (c : Dev nD) : BodyObligation (data (F := F) m 0 c) (defs₀ (F := F)) noVar () Set.univ := fun t => by
  rw [one_point t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_holds]
  exact body_entry m c

/-! ## The launch's conditions -/

theorem enter (c : Dev nD) :
    iprop(Pipeline.unscopedRestP Pipeline.Prefetch.none cfg0.spec c (fun b => m ((c : Thread nD τ).loc b)) ∗ levAts L lv
        ∗ Pipeline.launchCred owe₀ c ∗ prngReg c (ρ c) ∗ equipped m c)
      ⊢ |={Set.univ}=> iprop((∃ K, ready m K c) ∗ emp) := by
  unfold equipped ready
  iintro ⟨-, Hlev, Hcr, -, ⟨%K, Hr, Hs, Ht⟩⟩
  ihave Hc := (launch_credits (F := F) c) $$ Hcr
  imodintro
  isplitl
  · iexists K
    isplitl [Hr]; · iexact Hr
    isplitl [Hs]; · iexact Hs
    isplitl [Ht]; · iexact Ht
    isplitl [Hc] <;> iassumption
  · iempintro

theorem at_start (c : Dev nD) :
    iprop((∃ K, ready m K c) ∗ Pipeline.prefHeld Pipeline.Prefetch.none c (fun _ => fullShare.right) (fun k => k.elim0) ∗ Pipeline.scopedRest cfg0.spec c)
      ⊢ (data m 0 c).Φ 0 := by
  rw [show (data m 0 c).Φ 0 = iprop(∃ K, ready m K c) from rfl]
  iintro ⟨H, -, -⟩
  iexact H

theorem at_end (c : Dev nD) :
    (data m 0 c).Φ (Fin.last cfg0.N) ⊢ iprop(unscopedSems0 c ∗ Pipeline.ownSems0 osem c ∗ Pipeline.scopedRest cfg0.spec c) := by
  rw [show (data m 0 c).Φ (Fin.last cfg0.N) = drained c from rfl, scopedRest0_eq, own_zero, bar_zero]
  unfold drained
  iintro ⟨Hb, Hd⟩
  isplitl [Hb]; · iexact Hb
  isplitl [Hd]; · iexact Hd
  iempintro

theorem staging_waits (c : Dev nD) : (levAts L lv : sProp 𝕄) ⊢ Pipeline.cellsWaits cfgs (data m) () 0 c :=
  Pipeline.cellsWaits_intro cfgs (data m) () 0 c fun w s t => by
    rcases t with ⟨_ | _, ht⟩
    · exact mayWait_staging c _ (by fin_cases w <;> fin_cases s <;> decide)
    · exact (mayWait_owe c _ [] (by intro j hj; cases hj))

/-! ## The run -/

/-- What the arrays of device `c` hold at the end. -/
def endArr (c : Dev nD) (w : Fin cfg0.W) : Buf (Elt F) ((cfg0.win w).arr.view.loc (c : Thread nD τ)) := (data m 0 c).arrAt w cfg0.N

set_option maxRecDepth 8000 in
theorem run_all : θ_run defs (onTc (τ := τ) (main (F := F))) ⟨m, fun _ => 0, ρ⟩
    (fun r => (∀ (c : Dev nD) (w : Fin cfg0.W), r.2.mem ((cfg0.win w).arr.view.loc (c : Thread nD τ)) = endArr m c w) ∧ r.2.sem = fun _ => 0) :=
  Pipeline.θ_run_region_owing_glob_pf (fun p => (cfgs p).toPCfg) (fun p => (cfgs p).toPCfg_adm) (data m) () cellOf_inj (0 : Fin 1)
    winFacts0.to₀ ownSemFacts (Pipeline.PreFacts.none _) EL defs₀ noVar m ρ main
    (hmain := fun _ => rfl)
    (hbody := body_ok m) (hne := fun w => by fin_cases w <;> exact Nat.succ_pos _) (harr := arr_whole0) (hstage := stage_whole0) (hshare := share_full m)
    (hdistinct := winFacts0.arr_inj)
    (O₀ := owe₀) (howed₀ := fun _ => rfl) (howedN := fun _ => rfl)
    (L := L) (lv := lv) (hL := L_other) (hwaits := staging_waits m)
    (G := dealt m) (G' := equipped m) (u₀ := seed)
    (hu₀ := by
      unfold seed
      iintro H
      ihave H := (ownU_pair _ _) $$ H
      icases H with ⟨HL, HG⟩
      imod (deal m) $$ HG with HG
      imodintro
      isplitl [HL] <;> iassumption)
    (hglob := set_up m)
    (hA := fun _ _ => rfl) (hpf := fun _ k => k.elim0)
    (X := fun c => iprop(∃ K, ready m K c)) (Y := fun c => unscopedSems0 c) (Z := fun _ => iprop(emp))
    (hX := enter m ρ) (hin := at_start m) (hout := at_end m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Value.lean ====
/-
What the arrays hold when the kernel has run: the operand what it held, the result on every device the whole array whose
two row blocks the operands are.
-/
module

public import proofs.«01_k».proof.Proof.Run
public import Idealize.ShloMosaic.Lib.Pipeline.Value
public import Idealize.ShloMosaic.Lib.Layout

@[expose] public section

noncomputable section

namespace Cert.Gather

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-! ## The arrays at the end -/

theorem end_operand (c : Dev nD) : endArr m c (0 : Fin 2) = m ((c : Thread nD τ).loc main_arg0) := (data m 0 c).arrAt_in (0 : Fin 2) rfl _

/-- Where an element of the result's one block lies in the result: where it lies in the block. -/
theorem result_place (y : S1024x512.Idx) : ((cfg0.win (1 : Fin 2)).blk t0_0).view.emb y = y := by
  funext a
  refine Fin.ext ((win0_1.rect_emb_val t0_0 y a).trans ?_)
  fin_cases a <;> exact Nat.zero_add _

theorem flushed_result (c : Dev nD) (t : Fin cfg0.N) :
    (data m 0 c).flushed (1 : Fin 2) t = ((cfg0.win (1 : Fin 2)).blk t).view.read (Elt F) (full m c) := by
  rw [one_point t]
  exact funext fun y => (congrArg (full m c) (result_place y)).symm

theorem result_covered (i : S1024x512.Idx) :
    ∃ t : Fin cfg0.N, (cfg0.win (1 : Fin 2)).flush t = true ∧ i ∈ ((cfg0.win (1 : Fin 2)).blk t).view.set := by
  refine ⟨t0_0, rfl, ?_⟩
  have h := ((cfg0.win (1 : Fin 2)).blk t0_0).view.emb_mem_set i
  rwa [result_place i] at h

theorem end_result (c : Dev nD) : endArr m c (1 : Fin 2) = full m c :=
  (data m 0 c).arrAt_eq_of_cover (1 : Fin 2) (full m c) (fun t _ => flushed_result m c t) result_covered

/-- The kernel's run, read at the operand and the result of every device, and at the semaphores. -/
theorem run_read : θ_run defs (onTc (τ := τ) (main (F := F))) ⟨m, fun _ => 0, ρ⟩
    (fun r => (∀ c : Dev nD, r.2.mem ((c : Thread nD τ).loc main_v1) = full m c
      ∧ r.2.mem ((c : Thread nD τ).loc main_arg0) = m ((c : Thread nD τ).loc main_arg0)) ∧ r.2.sem = fun _ => 0) :=
  (θ_run defs _ _).mono (fun r h => ⟨fun c => ⟨(h.1 c (1 : Fin 2)).trans (end_result m c), (h.1 c (0 : Fin 2)).trans (end_operand m c)⟩, h.2⟩)
    (run_all m ρ)

/-! ## The result as the whole array -/

/-- The operand buffer holds the operand. -/
theorem xblk_eq (c : Dev nD) (y : S512x512.Idx) : xblk m c y = m ((c : Thread nD τ).loc main_arg0) y := by
  have h : (win0_0.blk (0 : Fin 1)).view.emb y = y := by
    funext a
    refine Fin.ext ((win0_0.rect_emb_val (0 : Fin 1) y a).trans ?_)
    fin_cases a <;> exact Nat.zero_add _
  exact congrArg (m ((c : Thread nD τ).loc main_arg0)) h

/-- A row of the finished buffer comes from a device whose operand is the block the row lies in. -/
theorem origin_block (c : Dev nD) {r : ℕ} (h : r < 1024) : (origin c r).val / 2 = r / 512 := by
  have hx : ∀ d : Dev nD, (xn d).val / 2 = 1 - d.val / 2 := by decide
  have hxy : ∀ d : Dev nD, (xn (yn d)).val / 2 = 1 - d.val / 2 := by decide
  have other (n : ℕ) (hn : n < 4) (hr : ¬ r / 512 = n / 2) : 1 - n / 2 = r / 512 := by omega
  unfold origin
  split
  · rename_i hr; exact hr.symm
  rename_i hr
  split
  · exact (hxy c).trans (other c.val c.isLt hr)
  · exact (hx c).trans (other c.val c.isLt hr)

/-- If every device's operand is its row block of `w`, every device's finished buffer is `w`. -/
theorem full_eq {w : S1024x512.Idx → Elt F .bf16}
    (hw : ∀ c : Dev nD, m ((c : Thread nD τ).loc main_arg0)
      = Layout.blockN ⟨2, ![512, 512]⟩ ⟨2, ![1024, 512]⟩ (Layout.meshBlock [2, 2] ![[0], []] c) w) (c : Dev nD) :
    full m c = w := by
  funext i
  show xblk m (origin c (i 0).val) (inBlock i) = w i
  rw [xblk_eq, hw, Layout.blockN_apply]
  have hi : (i 0).val < 1024 := (i 0).isLt
  have ho := origin_block c hi
  have hc := (origin c (i 0).val).isLt
  refine congrArg w (funext fun a => Fin.ext ?_)
  rw [Layout.TilesN.idx_val]
  fin_cases a
  · show ((origin c (i 0).val).val / 2 % 2 * 1 + 0) * 512 + (i 0).val % 512 = (i 0).val
    omega
  · show 0 * 512 + (i 1).val = (i 1).val
    omega

end Cert.Gather

end
-- ==== Proof.lean ====
/-
The five claims, assembled. The kernel and its idealization have the same text, so one run, written for the idealization
over any floats, proves the frame of both; the reference returns its argument.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import Idealize.ShloMosaic.Lib.StableHlo.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-! ## The reference -/

namespace Ref

open Cert.ReferenceIdeal

/-- The reference runs no operation: its one array ends as it began. -/
theorem run (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems rfl r.2⟩)
    (StableHlo.run_seq (by decide) (by decide) defs main (fun _ => []) (fun _ => rfl) (fun _ => trivial) m g)

end Ref

/-! ## The claims -/

/-- The kernel's run at any floats, read at the operand and the semaphores. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Gather.run_read m g)

/-- The two kernels run the same body. -/
theorem bodies_eq {F : FTy → Type} [FloatOps F] : Cert.Kernel.defs₀ (F := F) = Cert.KernelIdeal.defs₀ (F := F) :=
  congrArg Defs.onTc (funext fun k => by fin_cases k; rfl)
theorem defs_eq {F : FTy → Type} [FloatOps F] : Cert.Kernel.defs (F := F) = Cert.KernelIdeal.defs (F := F) :=
  congrArg (Pipeline.defs Cert.KernelIdeal.pcfgs) bodies_eq

theorem frame_kernel : Cert.quiescent_Kernel := fun m g _ => by
  rw [defs_eq]
  exact frame_any (F := Bits) m g

theorem frame_ideal : Cert.quiescent_KernelIdeal := fun m g _ => frame_any (F := Ideal) m g

theorem frame_reference : Cert.quiescent_ReferenceIdeal := fun m g _ => Ref.run m g

/-- Every device's result is the reference's array. -/
theorem same_value : Cert.algebraic_KernelIdeal_ReferenceIdeal := fun m g m' g' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).1.trans (Gather.full_eq m hm c), (h.1 c).2⟩) (Gather.run_read (F := Ideal) m g),
    (θ_run Cert.ReferenceIdeal.defs _ _).mono (fun _ h => ⟨h.1 0, h.1 0⟩) (Ref.run m' g')⟩

theorem claim : Cert.Claim := ⟨Cert.Kernel.Gen.facts, Cert.KernelIdeal.Gen.facts, Cert.ReferenceIdeal.Gen.facts,
  frame_kernel, frame_ideal, frame_reference, trivial, same_value⟩

end Cert.Proof

end
